-- ==== Defs.lean ====
def Pre_Knn (m : (ℓ : Loc Cert.Knn.nD Cert.Knn.τ Cert.Knn.sig) → Buf (Elt Bits) ℓ) : Prop :=
  True

def Pre_KnnIdeal (m : (ℓ : Loc Cert.KnnIdeal.nD Cert.KnnIdeal.τ Cert.KnnIdeal.sig) → Buf (Elt Ideal) ℓ) : Prop :=
  True

def Pre_KnnIdeal_in_range [hPre_in_range : Cert.Pre_in_range.Facts] (m : (ℓ : Loc Cert.KnnIdeal.nD Cert.KnnIdeal.τ Cert.KnnIdeal.sig) → Buf (Elt Ideal) ℓ) : Prop :=
  ∀ c : Dev Cert.KnnIdeal.nD,
    (Cert.Pre_in_range.fn (F := Ideal) (m ((c.tc : Thread Cert.KnnIdeal.nD Cert.KnnIdeal.τ).loc Cert.KnnIdeal.main_arg0))) = (fun _ => 1#1)

def Pre_KnnRefIdeal (m : (ℓ : Loc Cert.KnnRefIdeal.nD Cert.KnnRefIdeal.τ Cert.KnnRefIdeal.sig) → Buf (Elt Ideal) ℓ) : Prop :=
  True

def Pre_KnnRefIdeal_in_range [hPre_in_range : Cert.Pre_in_range.Facts] (m : (ℓ : Loc Cert.KnnRefIdeal.nD Cert.KnnRefIdeal.τ Cert.KnnRefIdeal.sig) → Buf (Elt Ideal) ℓ) : Prop :=
  ∀ c : Dev Cert.KnnRefIdeal.nD,
    (Cert.Pre_in_range.fn (F := Ideal) (m ((c.tc : Thread Cert.KnnRefIdeal.nD Cert.KnnRefIdeal.τ).loc Cert.KnnRefIdeal.main_arg0))) = (fun _ => 1#1)

def Pre_Gpe (m : (ℓ : Loc Cert.Gpe.nD Cert.Gpe.τ Cert.Gpe.sig) → Buf (Elt Bits) ℓ) : Prop :=
  True

def Pre_GpeIdeal (m : (ℓ : Loc Cert.GpeIdeal.nD Cert.GpeIdeal.τ Cert.GpeIdeal.sig) → Buf (Elt Ideal) ℓ) : Prop :=
  True

def Pre_GpeIdeal_summed [hPre_summed : Cert.Pre_summed.Facts] (m : (ℓ : Loc Cert.GpeIdeal.nD Cert.GpeIdeal.τ Cert.GpeIdeal.sig) → Buf (Elt Ideal) ℓ) : Prop :=
  ∀ c : Dev Cert.GpeIdeal.nD,
    (Cert.Pre_summed.fn (F := Ideal) (m ((c.tc : Thread Cert.GpeIdeal.nD Cert.GpeIdeal.τ).loc Cert.GpeIdeal.main_arg0)) (m ((c.tc : Thread Cert.GpeIdeal.nD Cert.GpeIdeal.τ).loc Cert.GpeIdeal.main_arg1))) = (fun _ => 1#1)

def quiescent_Knn [hKnn : Cert.Knn.Facts] : Prop :=
  ∀ (m : (ℓ : Loc Cert.Knn.nD Cert.Knn.τ Cert.Knn.sig) → Buf (Elt Bits) ℓ) (g : Dev Cert.Knn.nD → PrngReg), Pre_Knn m →
    θ_run (Cert.Knn.defs (F := Bits)) (onTc (τ := Cert.Knn.τ) (Cert.Knn.main (F := Bits))) ⟨m, fun _ => 0, g⟩ (fun r => (∀ c : Dev Cert.Knn.nD,
      r.2.mem ((c.tc : Thread Cert.Knn.nD Cert.Knn.τ).loc Cert.Knn.main_arg0) = m ((c.tc : Thread Cert.Knn.nD Cert.Knn.τ).loc Cert.Knn.main_arg0))
      ∧ r.2.sem = fun _ => 0)

def quiescent_KnnIdeal [hKnnIdeal : Cert.KnnIdeal.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0))
      ∧ r.2.sem = fun _ => 0)

def quiescent_KnnIdeal_pre_in_range [hKnnIdeal : Cert.KnnIdeal.Facts] [hPre_in_range : Cert.Pre_in_range.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal_in_range m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0))
      ∧ r.2.sem = fun _ => 0)

def quiescent_KnnRefIdeal [hKnnRefIdeal : Cert.KnnRefIdeal.Facts] : Prop :=
  ∀ (m : (ℓ : Loc Cert.KnnRefIdeal.nD Cert.KnnRefIdeal.τ Cert.KnnRefIdeal.sig) → Buf (Elt Ideal) ℓ) (g : Dev Cert.KnnRefIdeal.nD → PrngReg), Pre_KnnRefIdeal m →
    θ_run (Cert.KnnRefIdeal.defs (F := Ideal)) (onTc (τ := Cert.KnnRefIdeal.τ) (Cert.KnnRefIdeal.main (F := Ideal))) ⟨m, fun _ => 0, g⟩ (fun r => (∀ c : Dev Cert.KnnRefIdeal.nD,
      r.2.mem ((c.tc : Thread Cert.KnnRefIdeal.nD Cert.KnnRefIdeal.τ).loc Cert.KnnRefIdeal.main_arg0) = m ((c.tc : Thread Cert.KnnRefIdeal.nD Cert.KnnRefIdeal.τ).loc Cert.KnnRefIdeal.main_arg0))
      ∧ r.2.sem = fun _ => 0)

def quiescent_KnnRefIdeal_pre_in_range [hKnnRefIdeal : Cert.KnnRefIdeal.Facts] [hPre_in_range : Cert.Pre_in_range.Facts] : Prop :=
  ∀ (m : (ℓ : Loc Cert.KnnRefIdeal.nD Cert.KnnRefIdeal.τ Cert.KnnRefIdeal.sig) → Buf (Elt Ideal) ℓ) (g : Dev Cert.KnnRefIdeal.nD → PrngReg), Pre_KnnRefIdeal_in_range m →
    θ_run (Cert.KnnRefIdeal.defs (F := Ideal)) (onTc (τ := Cert.KnnRefIdeal.τ) (Cert.KnnRefIdeal.main (F := Ideal))) ⟨m, fun _ => 0, g⟩ (fun r => (∀ c : Dev Cert.KnnRefIdeal.nD,
      r.2.mem ((c.tc : Thread Cert.KnnRefIdeal.nD Cert.KnnRefIdeal.τ).loc Cert.KnnRefIdeal.main_arg0) = m ((c.tc : Thread Cert.KnnRefIdeal.nD Cert.KnnRefIdeal.τ).loc Cert.KnnRefIdeal.main_arg0))
      ∧ r.2.sem = fun _ => 0)

def quiescent_Gpe [hGpe : Cert.Gpe.Facts] : Prop :=
  ∀ (m : (ℓ : Loc Cert.Gpe.nD Cert.Gpe.τ Cert.Gpe.sig) → Buf (Elt Bits) ℓ) (g : Dev Cert.Gpe.nD → PrngReg), Pre_Gpe m →
    θ_run (Cert.Gpe.defs (F := Bits)) (onTc (τ := Cert.Gpe.τ) (Cert.Gpe.main (F := Bits))) ⟨m, fun _ => 0, g⟩ (fun r => (∀ c : Dev Cert.Gpe.nD,
      r.2.mem ((c.tc : Thread Cert.Gpe.nD Cert.Gpe.τ).loc Cert.Gpe.main_arg0) = m ((c.tc : Thread Cert.Gpe.nD Cert.Gpe.τ).loc Cert.Gpe.main_arg0)
      ∧ r.2.mem ((c.tc : Thread Cert.Gpe.nD Cert.Gpe.τ).loc Cert.Gpe.main_arg1) = m ((c.tc : Thread Cert.Gpe.nD Cert.Gpe.τ).loc Cert.Gpe.main_arg1))
      ∧ r.2.sem = fun _ => 0)

def quiescent_GpeIdeal [hGpeIdeal : Cert.GpeIdeal.Facts] : Prop :=
  ∀ (m : (ℓ : Loc Cert.GpeIdeal.nD Cert.GpeIdeal.τ Cert.GpeIdeal.sig) → Buf (Elt Ideal) ℓ) (g : Dev Cert.GpeIdeal.nD → PrngReg), Pre_GpeIdeal m →
    θ_run (Cert.GpeIdeal.defs (F := Ideal)) (onTc (τ := Cert.GpeIdeal.τ) (Cert.GpeIdeal.main (F := Ideal))) ⟨m, fun _ => 0, g⟩ (fun r => (∀ c : Dev Cert.GpeIdeal.nD,
      r.2.mem ((c.tc : Thread Cert.GpeIdeal.nD Cert.GpeIdeal.τ).loc Cert.GpeIdeal.main_arg0) = m ((c.tc : Thread Cert.GpeIdeal.nD Cert.GpeIdeal.τ).loc Cert.GpeIdeal.main_arg0)
      ∧ r.2.mem ((c.tc : Thread Cert.GpeIdeal.nD Cert.GpeIdeal.τ).loc Cert.GpeIdeal.main_arg1) = m ((c.tc : Thread Cert.GpeIdeal.nD Cert.GpeIdeal.τ).loc Cert.GpeIdeal.main_arg1))
      ∧ r.2.sem = fun _ => 0)

def quiescent_GpeIdeal_pre_summed [hGpeIdeal : Cert.GpeIdeal.Facts] [hPre_summed : Cert.Pre_summed.Facts] : Prop :=
  ∀ (m : (ℓ : Loc Cert.GpeIdeal.nD Cert.GpeIdeal.τ Cert.GpeIdeal.sig) → Buf (Elt Ideal) ℓ) (g : Dev Cert.GpeIdeal.nD → PrngReg), Pre_GpeIdeal_summed m →
    θ_run (Cert.GpeIdeal.defs (F := Ideal)) (onTc (τ := Cert.GpeIdeal.τ) (Cert.GpeIdeal.main (F := Ideal))) ⟨m, fun _ => 0, g⟩ (fun r => (∀ c : Dev Cert.GpeIdeal.nD,
      r.2.mem ((c.tc : Thread Cert.GpeIdeal.nD Cert.GpeIdeal.τ).loc Cert.GpeIdeal.main_arg0) = m ((c.tc : Thread Cert.GpeIdeal.nD Cert.GpeIdeal.τ).loc Cert.GpeIdeal.main_arg0)
      ∧ r.2.mem ((c.tc : Thread Cert.GpeIdeal.nD Cert.GpeIdeal.τ).loc Cert.GpeIdeal.main_arg1) = m ((c.tc : Thread Cert.GpeIdeal.nD Cert.GpeIdeal.τ).loc Cert.GpeIdeal.main_arg1))
      ∧ r.2.sem = fun _ => 0)

def preserves_Knn_KnnIdeal : Prop :=
  True

def algebraic_KnnIdeal_KnnRefIdeal_on_separated_pre_in_range [hKnnIdeal : Cert.KnnIdeal.Facts] [hKnnRefIdeal : Cert.KnnRefIdeal.Facts] [hPre_in_range : Cert.Pre_in_range.Facts] [hOn_separated : Cert.On_separated.Facts] : Prop :=
  ∀ (m : (ℓ : Loc Cert.KnnIdeal.nD Cert.KnnIdeal.τ Cert.KnnIdeal.sig) → Buf (Elt Ideal) ℓ) (g : Dev Cert.KnnIdeal.nD → PrngReg)
    (m' : (ℓ : Loc Cert.KnnRefIdeal.nD Cert.KnnRefIdeal.τ Cert.KnnRefIdeal.sig) → Buf (Elt Ideal) ℓ) (g' : Dev Cert.KnnRefIdeal.nD → PrngReg), Pre_KnnIdeal_in_range m →
    (∀ c : Dev Cert.KnnIdeal.nD,
      m' ((c.tc : Thread Cert.KnnRefIdeal.nD Cert.KnnRefIdeal.τ).loc Cert.KnnRefIdeal.main_arg0) = m ((c.tc : Thread Cert.KnnIdeal.nD Cert.KnnIdeal.τ).loc Cert.KnnIdeal.main_arg0)) →
    ∃ (v0 : (c : Dev Cert.KnnIdeal.nD) → Buf (Elt Ideal) ((c.tc : Thread Cert.KnnIdeal.nD Cert.KnnIdeal.τ).loc Cert.KnnIdeal.main_v10_0)) (v1 : (c : Dev Cert.KnnIdeal.nD) → Buf (Elt Ideal) ((c.tc : Thread Cert.KnnIdeal.nD Cert.KnnIdeal.τ).loc Cert.KnnIdeal.main_v10_1)),
      θ_run (Cert.KnnIdeal.defs (F := Ideal)) (onTc (τ := Cert.KnnIdeal.τ) (Cert.KnnIdeal.main (F := Ideal))) ⟨m, fun _ => 0, g⟩ (fun r => ∀ c : Dev Cert.KnnIdeal.nD,
          (∀ i : (⟨3, ![4, 4096, 48]⟩ : Shape).Idx, (Cert.On_separated.fn (F := Ideal) (m ((c.tc : Thread Cert.KnnIdeal.nD Cert.KnnIdeal.τ).loc Cert.KnnIdeal.main_arg0))).1 i = 1#1 → r.2.mem ((c.tc : Thread Cert.KnnIdeal.nD Cert.KnnIdeal.τ).loc Cert.KnnIdeal.main_v10_0) i = v0 c i)
          ∧ (∀ i : (⟨3, ![4, 8, 48]⟩ : Shape).Idx, (Cert.On_separated.fn (F := Ideal) (m ((c.tc : Thread Cert.KnnIdeal.nD Cert.KnnIdeal.τ).loc Cert.KnnIdeal.main_arg0))).2 i = 1#1 → r.2.mem ((c.tc : Thread Cert.KnnIdeal.nD Cert.KnnIdeal.τ).loc Cert.KnnIdeal.main_v10_1) i = v1 c i)
          ∧ r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0))
      ∧ θ_run (Cert.KnnRefIdeal.defs (F := Ideal)) (onTc (τ := Cert.KnnRefIdeal.τ) (Cert.KnnRefIdeal.main (F := Ideal))) ⟨m', fun _ => 0, g'⟩ (fun r => ∀ c : Dev Cert.KnnRefIdeal.nD,
          (∀ i : (⟨3, ![4, 4096, 48]⟩ : Shape).Idx, (Cert.On_separated.fn (F := Ideal) (m ((c.tc : Thread Cert.KnnIdeal.nD Cert.KnnIdeal.τ).loc Cert.KnnIdeal.main_arg0))).1 i = 1#1 → r.2.mem ((c.tc : Thread Cert.KnnRefIdeal.nD Cert.KnnRefIdeal.τ).loc Cert.KnnRefIdeal.main_v32) i = v0 c i)
          ∧ (∀ i : (⟨3, ![4, 8, 48]⟩ : Shape).Idx, (Cert.On_separated.fn (F := Ideal) (m ((c.tc : Thread Cert.KnnIdeal.nD Cert.KnnIdeal.τ).loc Cert.KnnIdeal.main_arg0))).2 i = 1#1 → r.2.mem ((c.tc : Thread Cert.KnnRefIdeal.nD Cert.KnnRefIdeal.τ).loc Cert.KnnRefIdeal.main_v31) i = v1 c i)
          ∧ r.2.mem ((c.tc : Thread Cert.KnnRefIdeal.nD Cert.KnnRefIdeal.τ).loc Cert.KnnRefIdeal.main_arg0) = m' ((c.tc : Thread Cert.KnnRefIdeal.nD Cert.KnnRefIdeal.τ).loc Cert.KnnRefIdeal.main_arg0))

def preserves_Gpe_GpeIdeal : Prop :=
  True

def holds_GpeIdeal_near_pre_summed [hGpeIdeal : Cert.GpeIdeal.Facts] [hPre_summed : Cert.Pre_summed.Facts] [hPost_near : Cert.Post_near.Facts] : Prop :=
  ∀ (m : (ℓ : Loc Cert.GpeIdeal.nD Cert.GpeIdeal.τ Cert.GpeIdeal.sig) → Buf (Elt Ideal) ℓ) (g : Dev Cert.GpeIdeal.nD → PrngReg), Pre_GpeIdeal_summed m →
    θ_run (Cert.GpeIdeal.defs (F := Ideal)) (onTc (τ := Cert.GpeIdeal.τ) (Cert.GpeIdeal.main (F := Ideal))) ⟨m, fun _ => 0, g⟩ (fun r => ∀ c : Dev Cert.GpeIdeal.nD,
      r.2.mem ((c.tc : Thread Cert.GpeIdeal.nD Cert.GpeIdeal.τ).loc Cert.GpeIdeal.main_arg0) = m ((c.tc : Thread Cert.GpeIdeal.nD Cert.GpeIdeal.τ).loc Cert.GpeIdeal.main_arg0)
      ∧ r.2.mem ((c.tc : Thread Cert.GpeIdeal.nD Cert.GpeIdeal.τ).loc Cert.GpeIdeal.main_arg1) = m ((c.tc : Thread Cert.GpeIdeal.nD Cert.GpeIdeal.τ).loc Cert.GpeIdeal.main_arg1)
      ∧ (Cert.Post_near.fn (F := Ideal) (m ((c.tc : Thread Cert.GpeIdeal.nD Cert.GpeIdeal.τ).loc Cert.GpeIdeal.main_arg0)) (m ((c.tc : Thread Cert.GpeIdeal.nD Cert.GpeIdeal.τ).loc Cert.GpeIdeal.main_arg1)) (r.2.mem ((c.tc : Thread Cert.GpeIdeal.nD Cert.GpeIdeal.τ).loc Cert.GpeIdeal.main_v54))) = (fun _ => 1#1))

def Claim : Prop :=
  ∃ (hKnn : Cert.Knn.Facts) (hKnnIdeal : Cert.KnnIdeal.Facts) (hKnnRefIdeal : Cert.KnnRefIdeal.Facts) (hGpe : Cert.Gpe.Facts) (hGpeIdeal : Cert.GpeIdeal.Facts) (hPre_in_range : Cert.Pre_in_range.Facts) (hPre_summed : Cert.Pre_summed.Facts) (hPost_near : Cert.Post_near.Facts) (hOn_separated : Cert.On_separated.Facts),
    quiescent_Knn (hKnn := hKnn)
    ∧ quiescent_KnnIdeal (hKnnIdeal := hKnnIdeal)
    ∧ quiescent_KnnIdeal_pre_in_range (hKnnIdeal := hKnnIdeal) (hPre_in_range := hPre_in_range)
    ∧ quiescent_KnnRefIdeal (hKnnRefIdeal := hKnnRefIdeal)
    ∧ quiescent_KnnRefIdeal_pre_in_range (hKnnRefIdeal := hKnnRefIdeal) (hPre_in_range := hPre_in_range)
    ∧ quiescent_Gpe (hGpe := hGpe)
    ∧ quiescent_GpeIdeal (hGpeIdeal := hGpeIdeal)
    ∧ quiescent_GpeIdeal_pre_summed (hGpeIdeal := hGpeIdeal) (hPre_summed := hPre_summed)
    ∧ preserves_Knn_KnnIdeal
    ∧ algebraic_KnnIdeal_KnnRefIdeal_on_separated_pre_in_range (hKnnIdeal := hKnnIdeal) (hKnnRefIdeal := hKnnRefIdeal) (hPre_in_range := hPre_in_range) (hOn_separated := hOn_separated)
    ∧ preserves_Gpe_GpeIdeal
    ∧ holds_GpeIdeal_near_pre_summed (hGpeIdeal := hGpeIdeal) (hPre_summed := hPre_summed) (hPost_near := hPost_near)
-- ==== On_separated.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x18 : Shape := ⟨3, ![4, 4096, 18]⟩
abbrev S4x4096x17 : Shape := ⟨3, ![4, 4096, 17]⟩
abbrev S4x4096x17x1 : Shape := ⟨4, ![4, 4096, 17, 1]⟩
abbrev S4x4096x1x17 : Shape := ⟨4, ![4, 4096, 1, 17]⟩
abbrev S4x4096x17x17 : Shape := ⟨4, ![4, 4096, 17, 17]⟩
abbrev S4 : Shape := ⟨1, ![4]⟩
abbrev S4x4096x48 : Shape := ⟨3, ![4, 4096, 48]⟩
abbrev S4x1x1 : Shape := ⟨3, ![4, 1, 1]⟩
abbrev S4x8x48 : Shape := ⟨3, ![4, 8, 48]⟩

class Facts : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  sliceFits_S4x4096x4096_S4x4096x18 : S4x4096x4096.Slices (fun _ => 0) S4x4096x18
  slices_S4x4096x18_S4x4096x17_0_0_0 : S4x4096x18.Slices ![0, 0, 0] S4x4096x17
  bcast_S_S4x4096x17 : S_.BroadcastsInDim S4x4096x17 (![] : Fin 0 → Fin S4x4096x17.rank)
  bcast_S4x4096x17_S4x4096x17x1_0_1_2 : S4x4096x17.BroadcastsInDim S4x4096x17x1 (![0, 1, 2] : Fin 3 → Fin S4x4096x17x1.rank)
  bcast_S4x4096x17_S4x4096x1x17_0_1_3 : S4x4096x17.BroadcastsInDim S4x4096x1x17 (![0, 1, 3] : Fin 3 → Fin S4x4096x1x17.rank)
  bcast_S4x4096x17x1_S4x4096x17x17_0_1_2_3 : S4x4096x17x1.BroadcastsInDim S4x4096x17x17 (![0, 1, 2, 3] : Fin 4 → Fin S4x4096x17x17.rank)
  bcast_S4x4096x1x17_S4x4096x17x17_0_1_2_3 : S4x4096x1x17.BroadcastsInDim S4x4096x17x17 (![0, 1, 2, 3] : Fin 4 → Fin S4x4096x17x17.rank)
  natLt_1_32 : 1 < 32
  slices_S4x4096x18_S4x4096x17_0_0_1 : S4x4096x18.Slices ![0, 0, 1] S4x4096x17
  reducesTo_S4x4096x17_S4x4096_d2 : S4x4096x17.ReducesTo [2] S4x4096
  reducesTo_S4x4096x17x17_S4x4096x17_d3 : S4x4096x17x17.ReducesTo [3] S4x4096x17
  reducesTo_S4x4096_S4_d1 : S4x4096.ReducesTo [1] S4
  bcast_S4x4096x1_S4x4096x48_0_1_2 : S4x4096x1.BroadcastsInDim S4x4096x48 (![0, 1, 2] : Fin 3 → Fin S4x4096x48.rank)
  bcast_S4_S4x1x1_0 : S4.BroadcastsInDim S4x1x1 (![0] : Fin 1 → Fin S4x1x1.rank)
  bcast_S4x1x1_S4x8x48_0_1_2 : S4x1x1.BroadcastsInDim S4x8x48 (![0, 1, 2] : Fin 3 → Fin S4x8x48.rank)
  dot_S4x4096x3_S4x4096x3_S4x4096x4096_2_2_1_1_0_0_wf : DotDims.WF S4x4096x3 S4x4096x3 S4x4096x4096 [2] [2] [1] [1] [0] [0]

variable [Facts]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf
def fn_clip {F : FTy → Type} [FloatOps F] (arg0 : FVec F S4x4096x4096 .f32) (arg1 : FVec F S_ .f32) : FVec F S4x4096x4096 .f32 :=
  let v0 : FVec F S_ .f32 := id arg1
  let v1 : FVec F S4x4096x4096 .f32 := broadcastInDim S4x4096x4096 ![] bcast_S_S4x4096x4096 v0
  let v2 : FVec F S4x4096x4096 .f32 := maximumf v1 arg0
  v2

def fn_part1 {F : FTy → Type} [FloatOps F] (main_values : FVec F S4x4096x18 .f32) (main_v16 : IVec S4x4096x17 32) (main_v17 : IVec S4x4096x17x1 32) : IVec S4x4096x48 1 × IVec S4x8x48 1 :=
  let main_v18 : IVec S4x4096x1x17 32 := broadcastInDim S4x4096x1x17 ![0, 1, 3] bcast_S4x4096x17_S4x4096x1x17_0_1_3 main_v16
  let main_v19 : IVec S4x4096x17x17 32 := broadcastInDim S4x4096x17x17 ![0, 1, 2, 3] bcast_S4x4096x17x1_S4x4096x17x17_0_1_2_3 main_v17
  let main_v20 : IVec S4x4096x17x17 32 := broadcastInDim S4x4096x17x17 ![0, 1, 2, 3] bcast_S4x4096x1x17_S4x4096x17x17_0_1_2_3 main_v18
  let main_v21 : IVec S4x4096x17x17 1 := cmpi .eq main_v19 main_v20
  let main_v22 : IVec S4x4096x17x17 32 := (extui 32 · natLt_1_32) main_v21
  let main_v23 : FVec F S4x4096x17 .f32 := (extractStridedSlice S4x4096x17 ![0, 0, 1] · slices_S4x4096x18_S4x4096x17_0_0_1) main_values
  let main_v24 : FVec F S4x4096x17 .f32 := (extractStridedSlice S4x4096x17 ![0, 0, 0] · slices_S4x4096x18_S4x4096x17_0_0_0) main_values
  let main_v25 : IVec S4x4096x17 1 := cmpf .olt main_v23 main_v24
  let main_c_2 : IVec S_ 1 := constantI S_ 1 1#1
  let main_v26 : IVec S4x4096 1 := (fun x v => Host.reduce IntOp.andi x v reducesTo_S4x4096x17_S4x4096_d2 h_S_) main_v25 main_c_2
  let main_c_3 : IVec S_ 32 := constantI S_ 32 0#32
  let main_v27 : IVec S4x4096x17 32 := (fun x v => Host.reduce IntOp.addi x v reducesTo_S4x4096x17x17_S4x4096x17_d3 h_S_) main_v22 main_c_3
  let main_c_4 : IVec S_ 32 := constantI S_ 32 3#32
  let main_v28 : IVec S4x4096x17 32 := broadcastInDim S4x4096x17 ![] bcast_S_S4x4096x17 main_c_4
  let main_v29 : IVec S4x4096x17 1 := cmpi .sle main_v27 main_v28
  let main_c_5 : IVec S_ 1 := constantI S_ 1 1#1
  let main_v30 : IVec S4x4096 1 := (fun x v => Host.reduce IntOp.andi x v reducesTo_S4x4096x17_S4x4096_d2 h_S_) main_v29 main_c_5
  let main_v31 : IVec S4x4096 1 := andi main_v26 main_v30
  let main_c_6 : IVec S_ 1 := constantI S_ 1 1#1
  let main_v32 : IVec S4 1 := (fun x v => Host.reduce IntOp.andi x v reducesTo_S4x4096_S4_d1 h_S_) main_v31 main_c_6
  let main_v33 : IVec S4x4096x1 1 := broadcastInDim S4x4096x1 ![0, 1] bcast_S4x4096_S4x4096x1_0_1 main_v31
  let main_v34 : IVec S4x4096x48 1 := broadcastInDim S4x4096x48 ![0, 1, 2] bcast_S4x4096x1_S4x4096x48_0_1_2 main_v33
  let main_v35 : IVec S4x1x1 1 := broadcastInDim S4x1x1 ![0] bcast_S4_S4x1x1_0 main_v32
  let main_v36 : IVec S4x8x48 1 := broadcastInDim S4x8x48 ![0, 1, 2] bcast_S4x1x1_S4x8x48_0_1_2 main_v35
  (main_v34, main_v36)

def fn {F : FTy → Type} [FloatOps F] (main_arg0 : FVec F S4x4096x3 .f32) : IVec S4x4096x48 1 × IVec S4x8x48 1 :=
  let main_v0 : FVec F S4x4096x3 .f32 := mulf main_arg0 main_arg0
  let main_cst : FVec F S_ .f32 := constant S_ .f32 0x00000000#32
  let main_v1 : FVec F S4x4096 .f32 := (fun x v => Host.reduceAdd x v reducesTo_S4x4096x3_S4x4096_d2 h_S_) main_v0 main_cst
  let main_v2 : FVec F S4x4096x1 .f32 := broadcastInDim S4x4096x1 ![0, 1] bcast_S4x4096_S4x4096x1_0_1 main_v1
  let main_v3 : FVec F S4x1x4096 .f32 := broadcastInDim S4x1x4096 ![0, 2] bcast_S4x4096_S4x1x4096_0_2 main_v1
  let main_v4 : FVec F S4x4096x4096 .f32 := broadcastInDim S4x4096x4096 ![0, 1, 2] bcast_S4x4096x1_S4x4096x4096_0_1_2 main_v2
  let main_v5 : FVec F S4x4096x4096 .f32 := broadcastInDim S4x4096x4096 ![0, 1, 2] bcast_S4x1x4096_S4x4096x4096_0_1_2 main_v3
  let main_v6 : FVec F S4x4096x4096 .f32 := addf main_v4 main_v5
  let main_v7 : FVec F S4x4096x4096 .f32 := (fun l r => Host.dotGeneral dot_S4x4096x3_S4x4096x3_S4x4096x4096_2_2_1_1_0_0 none l r) main_arg0 main_arg0
  let main_cst_0 : FVec F S_ .f32 := constant S_ .f32 0x40000000#32
  let main_v8 : FVec F S4x4096x4096 .f32 := broadcastInDim S4x4096x4096 ![] bcast_S_S4x4096x4096 main_cst_0
  let main_v9 : FVec F S4x4096x4096 .f32 := mulf main_v8 main_v7
  let main_v10 : FVec F S4x4096x4096 .f32 := subf main_v6 main_v9
  let main_cst_1 : FVec F S_ .f32 := constant S_ .f32 0x00000000#32
  let main_v11 : FVec F S4x4096x4096 .f32 := fn_clip (F := F) main_v10 main_cst_1
  let main_v12 : FVec F S4x4096x4096 .f32 := Host.sqrt main_v11
  let main_v13 : FVec F S4x4096x4096 .f32 := Host.negf main_v12
  let main_values : FVec F S4x4096x18 .f32 := (fun x => (Host.topK S4x4096x18 2 (FloatOps.cmpfTotal .gt) x sliceFits_S4x4096x4096_S4x4096x18).1) main_v13
  let main_indices : IVec S4x4096x18 32 := (fun x => (Host.topK S4x4096x18 2 (FloatOps.cmpfTotal .gt) x sliceFits_S4x4096x4096_S4x4096x18).2) main_v13
  let main_v14 : IVec S4x4096x17 32 := (extractStridedSlice S4x4096x17 ![0, 0, 0] · slices_S4x4096x18_S4x4096x17_0_0_0) main_indices
  let main_c : IVec S_ 32 := constantI S_ 32 127#32
  let main_v15 : IVec S4x4096x17 32 := broadcastInDim S4x4096x17 ![] bcast_S_S4x4096x17 main_c
  let main_v16 : IVec S4x4096x17 32 := andi main_v14 main_v15
  let main_v17 : IVec S4x4096x17x1 32 := broadcastInDim S4x4096x17x1 ![0, 1, 2] bcast_S4x4096x17_S4x4096x17x1_0_1_2 main_v16
  fn_part1 (F := F) main_values main_v16 main_v17
-- ==== Post_near.lean ====
abbrev S4x4096x48 : Shape := ⟨3, ![4, 4096, 48]⟩
abbrev S4x8x48 : Shape := ⟨3, ![4, 8, 48]⟩
abbrev S4x1x64 : Shape := ⟨3, ![4, 1, 64]⟩
abbrev S1x22 : Shape := ⟨2, ![1, 22]⟩
abbrev S64 : Shape := ⟨1, ![64]⟩
abbrev S4x64 : Shape := ⟨2, ![4, 64]⟩
abbrev S_ : Shape := ⟨0, ![]⟩
abbrev S4x4096x16x3 : Shape := ⟨4, ![4, 4096, 16, 3]⟩
abbrev S16 : Shape := ⟨1, ![16]⟩
abbrev S1x1x16x1 : Shape := ⟨4, ![1, 1, 16, 1]⟩
abbrev S4x65536x3 : Shape := ⟨3, ![4, 65536, 3]⟩
abbrev S4x3 : Shape := ⟨2, ![4, 3]⟩
abbrev S4x1x3 : Shape := ⟨3, ![4, 1, 3]⟩
abbrev S4x4096x16x1 : Shape := ⟨4, ![4, 4096, 16, 1]⟩
abbrev S1x1x1x22 : Shape := ⟨4, ![1, 1, 1, 22]⟩
abbrev S4x4096x16x22 : Shape := ⟨4, ![4, 4096, 16, 22]⟩
abbrev S4x4096x16x66 : Shape := ⟨4, ![4, 4096, 16, 66]⟩
abbrev S64x1 : Shape := ⟨2, ![64, 1]⟩
abbrev S1 : Shape := ⟨1, ![1]⟩
abbrev S1x1 : Shape := ⟨2, ![1, 1]⟩
abbrev S4x4096x16x64 : Shape := ⟨4, ![4, 4096, 16, 64]⟩
abbrev S4x4096x64 : Shape := ⟨3, ![4, 4096, 64]⟩

class Facts : Prop where
  shapeCasts_S4x1x64_S4x64 : S4x1x64.ShapeCasts S4x64
  bcast_S_S4x64 : S_.BroadcastsInDim S4x64 (![] : Fin 0 → Fin S4x64.rank)
  shapeCasts_S4x4096x48_S4x4096x16x3 : S4x4096x48.ShapeCasts S4x4096x16x3
  reducesTo_S4x4096x16x3_S16_d0_1_3 : S4x4096x16x3.ReducesTo [0, 1, 3] S16
  h_S_ : 0 < S_.numel
  bcast_S16_S1x1x16x1_2 : S16.BroadcastsInDim S1x1x16x1 (![2] : Fin 1 → Fin S1x1x16x1.rank)
  bcast_S_S1x1x16x1 : S_.BroadcastsInDim S1x1x16x1 (![] : Fin 0 → Fin S1x1x16x1.rank)
  bcast_S1x1x16x1_S4x4096x16x3_0_1_2_3 : S1x1x16x1.BroadcastsInDim S4x4096x16x3 (![0, 1, 2, 3] : Fin 4 → Fin S4x4096x16x3.rank)
  shapeCasts_S4x4096x16x3_S4x65536x3 : S4x4096x16x3.ShapeCasts S4x65536x3
  reducesTo_S4x65536x3_S4x3_d1 : S4x65536x3.ReducesTo [1] S4x3
  bcast_S4x3_S4x1x3_0_2 : S4x3.BroadcastsInDim S4x1x3 (![0, 2] : Fin 2 → Fin S4x1x3.rank)
  bcast_S_S4x1x3 : S_.BroadcastsInDim S4x1x3 (![] : Fin 0 → Fin S4x1x3.rank)
  bcast_S4x1x3_S4x65536x3_0_1_2 : S4x1x3.BroadcastsInDim S4x65536x3 (![0, 1, 2] : Fin 3 → Fin S4x65536x3.rank)
  bcast_S_S4x3 : S_.BroadcastsInDim S4x3 (![] : Fin 0 → Fin S4x3.rank)
  reducesTo_S4x3_S_d0_1 : S4x3.ReducesTo [0, 1] S_
  slices_S4x4096x16x3_S4x4096x16x1_0_0_0_0 : S4x4096x16x3.Slices ![0, 0, 0, 0] S4x4096x16x1
  bcast_S1x22_S1x1x1x22_2_3 : S1x22.BroadcastsInDim S1x1x1x22 (![2, 3] : Fin 2 → Fin S1x1x1x22.rank)
  bcast_S4x4096x16x1_S4x4096x16x22_0_1_2_3 : S4x4096x16x1.BroadcastsInDim S4x4096x16x22 (![0, 1, 2, 3] : Fin 4 → Fin S4x4096x16x22.rank)
  bcast_S1x1x1x22_S4x4096x16x22_0_1_2_3 : S1x1x1x22.BroadcastsInDim S4x4096x16x22 (![0, 1, 2, 3] : Fin 4 → Fin S4x4096x16x22.rank)
  bcast_S_S4x4096x16x22 : S_.BroadcastsInDim S4x4096x16x22 (![] : Fin 0 → Fin S4x4096x16x22.rank)
  slices_S4x4096x16x3_S4x4096x16x1_0_0_0_1 : S4x4096x16x3.Slices ![0, 0, 0, 1] S4x4096x16x1
  slices_S4x4096x16x3_S4x4096x16x1_0_0_0_2 : S4x4096x16x3.Slices ![0, 0, 0, 2] S4x4096x16x1
  concatenates_S4x4096x16x22_S4x4096x16x22_S4x4096x16x22_S4x4096x16x66_d3 : Shape.Concatenates [S4x4096x16x22, S4x4096x16x22, S4x4096x16x22] S4x4096x16x66 3
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  bcast_S64_S4x4096x16x64_3 : S64.BroadcastsInDim S4x4096x16x64 (![3] : Fin 1 → Fin S4x4096x16x64.rank)
  bcast_S_S4x4096x16x64 : S_.BroadcastsInDim S4x4096x16x64 (![] : Fin 0 → Fin S4x4096x16x64.rank)
  reducesTo_S4x4096x16x64_S4x4096x64_d2 : S4x4096x16x64.ReducesTo [2] S4x4096x64
  reducesTo_S4x4096x64_S4x64_d1 : S4x4096x64.ReducesTo [1] S4x64
  reducesTo_S4x64_S_d0_1 : S4x64.ReducesTo [0, 1] S_
  gather_S4x4096x16x66_S64x1_S4x4096x16x64_012_3_n_n_3_1_44096161_wf : GatherDims.WF S4x4096x16x66 S64x1 S4x4096x16x64 [0, 1, 2] [3] [] [3] [] 1 ![4, 4096, 16, 1]

variable [Facts]

def gather_S4x4096x16x66_S64x1_S4x4096x16x64_012_3_n_n_3_1_44096161 : GatherDims S4x4096x16x66 S64x1 S4x4096x16x64 where
  offsetDims := [0, 1, 2]
  collapsedSliceDims := [3]
  operandBatchingDims := []
  startIndicesBatchingDims := []
  startIndexMap := [3]
  indexVectorDim := 1
  sliceSizes := ![4, 4096, 16, 1]
  wf := gather_S4x4096x16x66_S64x1_S4x4096x16x64_012_3_n_n_3_1_44096161_wf

noncomputable abbrev lit0 : Fin 22 → BitVec 32 := fun
  | 0 => 0xBF69BD38#32 | 1 => 0xBF537A6F#32 | 2 => 0xBF3D37A7#32 | 3 => 0xBF26F4DF#32 | 4 => 0xBF10B216#32 | 5 => 0xBEF4DE9C#32 | 6 => 0xBEC8590B#32 | 7 => 0xBE9BD37A#32
  | 8 => 0xBE5E9BD3#32 | 9 => 0xBE0590B2#32 | 10 => 0xBD321643#32 | 11 => 0x3D321643#32 | 12 => 0x3E0590B2#32 | 13 => 0x3E5E9BD3#32 | 14 => 0x3E9BD37A#32 | 15 => 0x3EC8590B#32
  | 16 => 0x3EF4DE9C#32 | 17 => 0x3F10B216#32 | 18 => 0x3F26F4DF#32 | 19 => 0x3F3D37A7#32 | 20 => 0x3F537A6F#32 | 21 => 0x3F69BD38#32
  | _ => 0#32

noncomputable abbrev lit1 : Fin 64 → BitVec 32 := fun
  | 0 => 0#32 | 1 => 1#32 | 2 => 2#32 | 3 => 3#32 | 4 => 4#32 | 5 => 5#32 | 6 => 6#32 | 7 => 7#32
  | 8 => 8#32 | 9 => 9#32 | 10 => 10#32 | 11 => 11#32 | 12 => 12#32 | 13 => 13#32 | 14 => 14#32 | 15 => 15#32
  | 16 => 16#32 | 17 => 17#32 | 18 => 18#32 | 19 => 19#32 | 20 => 20#32 | 21 => 21#32 | 22 => 22#32 | 23 => 23#32
  | 24 => 24#32 | 25 => 25#32 | 26 => 26#32 | 27 => 27#32 | 28 => 28#32 | 29 => 29#32 | 30 => 30#32 | 31 => 31#32
  | 32 => 33#32 | 33 => 34#32 | 34 => 35#32 | 35 => 36#32 | 36 => 37#32 | 37 => 38#32 | 38 => 39#32 | 39 => 40#32
  | 40 => 41#32 | 41 => 42#32 | 42 => 43#32 | 43 => 44#32 | 44 => 45#32 | 45 => 46#32 | 46 => 47#32 | 47 => 48#32
  | 48 => 49#32 | 49 => 50#32 | 50 => 51#32 | 51 => 52#32 | 52 => 53#32 | 53 => 54#32 | 54 => 55#32 | 55 => 56#32
  | 56 => 57#32 | 57 => 58#32 | 58 => 59#32 | 59 => 60#32 | 60 => 61#32 | 61 => 62#32 | 62 => 63#32 | 63 => 65#32
  | _ => 0#32

def fn_where {F : FTy → Type} [FloatOps F] (arg0 : IVec S_ 1) (arg1 : FVec F S1x1x16x1 .f32) (arg2 : FVec F S_ .f32) : FVec F S1x1x16x1 .f32 :=
  let v0 : FVec F S_ .f32 := id arg2
  let v1 : FVec F S1x1x16x1 .f32 := broadcastInDim S1x1x16x1 ![] bcast_S_S1x1x16x1 v0
  let v2 : FVec F S1x1x16x1 .f32 := (fun p a b => select (broadcastInDim S1x1x16x1 ![] bcast_S_S1x1x16x1 p) a b) arg0 arg1 v1
  v2

def fn_var {F : FTy → Type} [FloatOps F] (arg0 : FVec F S4x4096x16x3 .f32) (arg1 : IVec S_ 32) : FVec F S1x1x16x1 .f32 :=
  let cst : FVec F S_ .f32 := constant S_ .f32 0x00000000#32
  let v0 : FVec F S16 .f32 := (fun x v => Host.reduceAdd x v reducesTo_S4x4096x16x3_S16_d0_1_3 h_S_) arg0 cst
  let v1 : FVec F S1x1x16x1 .f32 := broadcastInDim S1x1x16x1 ![2] bcast_S16_S1x1x16x1_2 v0
  let cst_0 : FVec F S_ .f32 := constant S_ .f32 0x47400000#32
  let v2 : FVec F S1x1x16x1 .f32 := broadcastInDim S1x1x16x1 ![] bcast_S_S1x1x16x1 cst_0
  let v3 : FVec F S1x1x16x1 .f32 := Host.divf v1 v2
  let v4 : FVec F S4x4096x16x3 .f32 := broadcastInDim S4x4096x16x3 ![0, 1, 2, 3] bcast_S1x1x16x1_S4x4096x16x3_0_1_2_3 v3
  let v5 : FVec F S4x4096x16x3 .f32 := subf arg0 v4
  let v6 : FVec F S4x4096x16x3 .f32 := mulf v5 v5
  let v7 : FVec F S_ .f32 := sitofp .f32 arg1
  let cst_1 : FVec F S_ .f32 := constant S_ .f32 0x47400000#32
  let v8 : FVec F S_ .f32 := subf cst_1 v7
  let cst_2 : FVec F S_ .f32 := constant S_ .f32 0x00000000#32
  let v9 : FVec F S16 .f32 := (fun x v => Host.reduceAdd x v reducesTo_S4x4096x16x3_S16_d0_1_3 h_S_) v6 cst_2
  let v10 : FVec F S1x1x16x1 .f32 := broadcastInDim S1x1x16x1 ![2] bcast_S16_S1x1x16x1_2 v9
  let v11 : FVec F S1x1x16x1 .f32 := broadcastInDim S1x1x16x1 ![] bcast_S_S1x1x16x1 v8
  let v12 : FVec F S1x1x16x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x1x16x1 .f32 := fn_where (F := F) v13 v12 cst_4
  v14

def fn_std {F : FTy → Type} [FloatOps F] (arg0 : FVec F S4x4096x16x3 .f32) (arg1 : IVec S_ 32) : FVec F S1x1x16x1 .f32 :=
  let v0 : FVec F S1x1x16x1 .f32 := fn_var (F := F) arg0 arg1
  let v1 : FVec F S1x1x16x1 .f32 := Host.sqrt v0
  v1

def fn_clip {F : FTy → Type} [FloatOps F] (arg0 : FVec F S1x1x16x1 .f32) (arg1 : FVec F S_ .f32) : FVec F S1x1x16x1 .f32 :=
  let v0 : FVec F S_ .f32 := id arg1
  let v1 : FVec F S1x1x16x1 .f32 := broadcastInDim S1x1x16x1 ![] bcast_S_S1x1x16x1 v0
  let v2 : FVec F S1x1x16x1 .f32 := maximumf v1 arg0
  v2

def fn_where_2 {F : FTy → Type} [FloatOps F] (arg0 : IVec S_ 1) (arg1 : FVec F S4x3 .f32) (arg2 : FVec F S_ .f32) : FVec F S4x3 .f32 :=
  let v0 : FVec F S_ .f32 := id arg2
  let v1 : FVec F S4x3 .f32 := broadcastInDim S4x3 ![] bcast_S_S4x3 v0
  let v2 : FVec F S4x3 .f32 := (fun p a b => select (broadcastInDim S4x3 ![] bcast_S_S4x3 p) a b) arg0 arg1 v1
  v2

def fn_var_1 {F : FTy → Type} [FloatOps F] (arg0 : FVec F S4x65536x3 .f32) (arg1 : IVec S_ 32) : FVec F S4x3 .f32 :=
  let cst : FVec F S_ .f32 := constant S_ .f32 0x00000000#32
  let v0 : FVec F S4x3 .f32 := (fun x v => Host.reduceAdd x v reducesTo_S4x65536x3_S4x3_d1 h_S_) arg0 cst
  let v1 : FVec F S4x1x3 .f32 := broadcastInDim S4x1x3 ![0, 2] bcast_S4x3_S4x1x3_0_2 v0
  let cst_0 : FVec F S_ .f32 := constant S_ .f32 0x47800000#32
  let v2 : FVec F S4x1x3 .f32 := broadcastInDim S4x1x3 ![] bcast_S_S4x1x3 cst_0
  let v3 : FVec F S4x1x3 .f32 := Host.divf v1 v2
  let v4 : FVec F S4x65536x3 .f32 := broadcastInDim S4x65536x3 ![0, 1, 2] bcast_S4x1x3_S4x65536x3_0_1_2 v3
  let v5 : FVec F S4x65536x3 .f32 := subf arg0 v4
  let v6 : FVec F S4x65536x3 .f32 := mulf v5 v5
  let v7 : FVec F S_ .f32 := sitofp .f32 arg1
  let cst_1 : FVec F S_ .f32 := constant S_ .f32 0x47800000#32
  let v8 : FVec F S_ .f32 := subf cst_1 v7
  let cst_2 : FVec F S_ .f32 := constant S_ .f32 0x00000000#32
  let v9 : FVec F S4x3 .f32 := (fun x v => Host.reduceAdd x v reducesTo_S4x65536x3_S4x3_d1 h_S_) v6 cst_2
  let v10 : FVec F S4x3 .f32 := broadcastInDim S4x3 ![] bcast_S_S4x3 v8
  let v11 : FVec F S4x3 .f32 := Host.divf v9 v10
  let cst_3 : FVec F S_ .f32 := constant S_ .f32 0x00000000#32
  let v12 : IVec S_ 1 := cmpf .ogt v8 cst_3
  let cst_4 : FVec F S_ .f32 := constant S_ .f32 0x7FC00000#32
  let v13 : FVec F S4x3 .f32 := fn_where_2 (F := F) v12 v11 cst_4
  v13

def fn_std_0 {F : FTy → Type} [FloatOps F] (arg0 : FVec F S4x65536x3 .f32) (arg1 : IVec S_ 32) : FVec F S4x3 .f32 :=
  let v0 : FVec F S4x3 .f32 := fn_var_1 (F := F) arg0 arg1
  let v1 : FVec F S4x3 .f32 := Host.sqrt v0
  v1

def fn_where_3 {F : FTy → Type} [FloatOps F] (arg0 : IVec S64 1) (arg1 : IVec S64 32) (arg2 : IVec S64 32) : IVec S64 32 :=
  let v0 : IVec S64 32 := select arg0 arg1 arg2
  v0

def fn_take {F : FTy → Type} [FloatOps F] (arg0 : FVec F S4x4096x16x66 .f32) (arg1 : IVec S64 32) : FVec F S4x4096x16x64 .f32 :=
  let c : IVec S_ 32 := constantI S_ 32 0#32
  let v0 : IVec S64 32 := broadcastInDim S64 ![] bcast_S_S64 c
  let v1 : IVec S64 1 := cmpi .slt arg1 v0
  let c_0 : IVec S_ 32 := constantI S_ 32 66#32
  let v2 : IVec S64 32 := broadcastInDim S64 ![] bcast_S_S64 c_0
  let v3 : IVec S64 32 := addi arg1 v2
  let v4 : IVec S64 32 := fn_where_3 (F := F) v1 v3 arg1
  let v5 : IVec S64x1 32 := broadcastInDim S64x1 ![0] bcast_S64_S64x1_0 v4
  let c_1 : IVec S1 32 := constantI S1 32 65#32
  let c_2 : IVec S_ 32 := constantI S_ 32 0#32
  let v6 : IVec S64x1 32 := broadcastInDim S64x1 ![] bcast_S_S64x1 c_2
  let v7 : IVec S64x1 1 := cmpi .sge v5 v6
  let v8 : IVec S1x1 32 := broadcastInDim S1x1 ![1] bcast_S1_S1x1_1 c_1
  let v9 : IVec S64x1 32 := broadcastInDim S64x1 ![0, 1] bcast_S1x1_S64x1_0_1 v8
  let v10 : IVec S64x1 1 := cmpi .sle v5 v9
  let v11 : IVec S64x1 1 := andi v7 v10
  let c_3 : IVec S_ 1 := constantI S_ 1 1#1
  let v12 : IVec S64 1 := (fun x v => Host.reduce IntOp.andi x v reducesTo_S64x1_S64_d1 h_S_) v11 c_3
  let v13 : FVec F S4x4096x16x64 .f32 := (fun x i => Host.gather gather_S4x4096x16x66_S64x1_S4x4096x16x64_012_3_n_n_3_1_44096161 x i) arg0 v5
  let v14 : IVec S4x4096x16x64 1 := broadcastInDim S4x4096x16x64 ![3] bcast_S64_S4x4096x16x64_3 v12
  let cst : FVec F S_ .f32 := constant S_ .f32 0x7FC00000#32
  let v15 : FVec F S4x4096x16x64 .f32 := broadcastInDim S4x4096x16x64 ![] bcast_S_S4x4096x16x64 cst
  let v16 : FVec F S4x4096x16x64 .f32 := select v14 v13 v15
  v16

def fn_part5 {F : FTy → Type} [FloatOps F] (main_v2 : FVec F S4x64 .f32) (main_v89 : FVec F S4x64 .f32) (main_v90 : FVec F S4x64 .f32) : IVec S_ 1 :=
  let main_v91 : FVec F S4x64 .f32 := Host.divf main_v89 main_v90
  let main_v92 : FVec F S4x64 .f32 := subf main_v2 main_v91
  let main_v93 : FVec F S4x64 .f32 := Host.absf main_v92
  let main_cst_27 : FVec F S_ .f32 := constant S_ .f32 0x38D1B717#32
  let main_v94 : FVec F S4x64 .f32 := broadcastInDim S4x64 ![] bcast_S_S4x64 main_cst_27
  let main_v95 : IVec S4x64 1 := cmpf .ole main_v93 main_v94
  let main_c_28 : IVec S_ 1 := constantI S_ 1 1#1
  let main_v96 : IVec S_ 1 := (fun x v => Host.reduce IntOp.andi x v reducesTo_S4x64_S_d0_1 h_S_) main_v95 main_c_28
  main_v96

def fn_part4 {F : FTy → Type} [FloatOps F] (main_c : IVec S64 32) (main_v2 : FVec F S4x64 .f32) (main_v13 : FVec F S_ .f32) (main_v19 : FVec F S_ .f32) (main_v41 : FVec F S4x4096x16x22 .f32) (main_v63 : FVec F S4x4096x16x22 .f32) (main_v68 : FVec F S4x4096x16x22 .f32) (main_v72 : FVec F S4x4096x16x22 .f32) : IVec S_ 1 :=
  let main_cst_21 : FVec F S_ .f32 := constant S_ .f32 0xBF000000#32
  let main_v73 : FVec F S4x4096x16x22 .f32 := broadcastInDim S4x4096x16x22 ![] bcast_S_S4x4096x16x22 main_cst_21
  let main_v74 : FVec F S4x4096x16x22 .f32 := mulf main_v73 main_v72
  let main_v75 : FVec F S4x4096x16x22 .f32 := Host.exp main_v74
  let main_cst_22 : FVec F S_ .f32 := constant S_ .f32 0x358637BD#32
  let main_v76 : FVec F S_ .f32 := addf main_v13 main_cst_22
  let main_v77 : FVec F S4x4096x16x22 .f32 := broadcastInDim S4x4096x16x22 ![] bcast_S_S4x4096x16x22 main_v76
  let main_v78 : FVec F S4x4096x16x22 .f32 := Host.divf main_v68 main_v77
  let main_v79 : FVec F S4x4096x16x22 .f32 := Host.cos main_v78
  let main_v80 : FVec F S4x4096x16x22 .f32 := broadcastInDim S4x4096x16x22 ![] bcast_S_S4x4096x16x22 main_v19
  let main_v81 : FVec F S4x4096x16x22 .f32 := mulf main_v80 main_v75
  let main_cst_23 : FVec F S_ .f32 := constant S_ .f32 0x3F800000#32
  let main_v82 : FVec F S_ .f32 := subf main_cst_23 main_v19
  let main_v83 : FVec F S4x4096x16x22 .f32 := broadcastInDim S4x4096x16x22 ![] bcast_S_S4x4096x16x22 main_v82
  let main_v84 : FVec F S4x4096x16x22 .f32 := mulf main_v83 main_v79
  let main_v85 : FVec F S4x4096x16x22 .f32 := addf main_v81 main_v84
  let main_v86 : FVec F S4x4096x16x66 .f32 := concatenate S4x4096x16x66 3 [⟨S4x4096x16x22, main_v41⟩, ⟨S4x4096x16x22, main_v63⟩, ⟨S4x4096x16x22, main_v85⟩] concatenates_S4x4096x16x22_S4x4096x16x22_S4x4096x16x22_S4x4096x16x66_d3
  let main_v87 : FVec F S4x4096x16x64 .f32 := fn_take (F := F) main_v86 main_c
  let main_cst_24 : FVec F S_ .f32 := constant S_ .f32 0xFF800000#32
  let main_v88 : FVec F S4x4096x64 .f32 := (fun x v => Host.reduce FloatOps.maximumf x v reducesTo_S4x4096x16x64_S4x4096x64_d2 h_S_) main_v87 main_cst_24
  let main_cst_25 : FVec F S_ .f32 := constant S_ .f32 0x00000000#32
  let main_v89 : FVec F S4x64 .f32 := (fun x v => Host.reduceAdd x v reducesTo_S4x4096x64_S4x64_d1 h_S_) main_v88 main_cst_25
  let main_cst_26 : FVec F S_ .f32 := constant S_ .f32 0x45800000#32
  let main_v90 : FVec F S4x64 .f32 := broadcastInDim S4x64 ![] bcast_S_S4x64 main_cst_26
  fn_part5 (F := F) main_v2 main_v89 main_v90

def fn_part3 {F : FTy → Type} [FloatOps F] (main_cst : FVec F S1x22 .f32) (main_c : IVec S64 32) (main_v2 : FVec F S4x64 .f32) (main_v7 : FVec F S4x4096x16x3 .f32) (main_v13 : FVec F S_ .f32) (main_v19 : FVec F S_ .f32) (main_v41 : FVec F S4x4096x16x22 .f32) (main_v46 : FVec F S4x4096x16x22 .f32) (main_v50 : FVec F S4x4096x16x22 .f32) (main_v51 : FVec F S4x4096x16x22 .f32) : IVec S_ 1 :=
  let main_v52 : FVec F S4x4096x16x22 .f32 := mulf main_v51 main_v50
  let main_v53 : FVec F S4x4096x16x22 .f32 := Host.exp main_v52
  let main_cst_18 : FVec F S_ .f32 := constant S_ .f32 0x358637BD#32
  let main_v54 : FVec F S_ .f32 := addf main_v13 main_cst_18
  let main_v55 : FVec F S4x4096x16x22 .f32 := broadcastInDim S4x4096x16x22 ![] bcast_S_S4x4096x16x22 main_v54
  let main_v56 : FVec F S4x4096x16x22 .f32 := Host.divf main_v46 main_v55
  let main_v57 : FVec F S4x4096x16x22 .f32 := Host.cos main_v56
  let main_v58 : FVec F S4x4096x16x22 .f32 := broadcastInDim S4x4096x16x22 ![] bcast_S_S4x4096x16x22 main_v19
  let main_v59 : FVec F S4x4096x16x22 .f32 := mulf main_v58 main_v53
  let main_cst_19 : FVec F S_ .f32 := constant S_ .f32 0x3F800000#32
  let main_v60 : FVec F S_ .f32 := subf main_cst_19 main_v19
  let main_v61 : FVec F S4x4096x16x22 .f32 := broadcastInDim S4x4096x16x22 ![] bcast_S_S4x4096x16x22 main_v60
  let main_v62 : FVec F S4x4096x16x22 .f32 := mulf main_v61 main_v57
  let main_v63 : FVec F S4x4096x16x22 .f32 := addf main_v59 main_v62
  let main_v64 : FVec F S4x4096x16x1 .f32 := (extractStridedSlice S4x4096x16x1 ![0, 0, 0, 2] · slices_S4x4096x16x3_S4x4096x16x1_0_0_0_2) main_v7
  let main_v65 : FVec F S1x1x1x22 .f32 := broadcastInDim S1x1x1x22 ![2, 3] bcast_S1x22_S1x1x1x22_2_3 main_cst
  let main_v66 : FVec F S4x4096x16x22 .f32 := broadcastInDim S4x4096x16x22 ![0, 1, 2, 3] bcast_S4x4096x16x1_S4x4096x16x22_0_1_2_3 main_v64
  let main_v67 : FVec F S4x4096x16x22 .f32 := broadcastInDim S4x4096x16x22 ![0, 1, 2, 3] bcast_S1x1x1x22_S4x4096x16x22_0_1_2_3 main_v65
  let main_v68 : FVec F S4x4096x16x22 .f32 := subf main_v66 main_v67
  let main_cst_20 : FVec F S_ .f32 := constant S_ .f32 0x358637BD#32
  let main_v69 : FVec F S_ .f32 := addf main_v13 main_cst_20
  let main_v70 : FVec F S4x4096x16x22 .f32 := broadcastInDim S4x4096x16x22 ![] bcast_S_S4x4096x16x22 main_v69
  let main_v71 : FVec F S4x4096x16x22 .f32 := Host.divf main_v68 main_v70
  let main_v72 : FVec F S4x4096x16x22 .f32 := mulf main_v71 main_v71
  fn_part4 (F := F) main_c main_v2 main_v13 main_v19 main_v41 main_v63 main_v68 main_v72

def fn_part2 {F : FTy → Type} [FloatOps F] (main_cst : FVec F S1x22 .f32) (main_c : IVec S64 32) (main_v2 : FVec F S4x64 .f32) (main_v7 : FVec F S4x4096x16x3 .f32) (main_v13 : FVec F S_ .f32) (main_v19 : FVec F S_ .f32) (main_v24 : FVec F S4x4096x16x22 .f32) (main_v31 : FVec F S4x4096x16x22 .f32) : IVec S_ 1 :=
  let main_cst_14 : FVec F S_ .f32 := constant S_ .f32 0x358637BD#32
  let main_v32 : FVec F S_ .f32 := addf main_v13 main_cst_14
  let main_v33 : FVec F S4x4096x16x22 .f32 := broadcastInDim S4x4096x16x22 ![] bcast_S_S4x4096x16x22 main_v32
  let main_v34 : FVec F S4x4096x16x22 .f32 := Host.divf main_v24 main_v33
  let main_v35 : FVec F S4x4096x16x22 .f32 := Host.cos main_v34
  let main_v36 : FVec F S4x4096x16x22 .f32 := broadcastInDim S4x4096x16x22 ![] bcast_S_S4x4096x16x22 main_v19
  let main_v37 : FVec F S4x4096x16x22 .f32 := mulf main_v36 main_v31
  let main_cst_15 : FVec F S_ .f32 := constant S_ .f32 0x3F800000#32
  let main_v38 : FVec F S_ .f32 := subf main_cst_15 main_v19
  let main_v39 : FVec F S4x4096x16x22 .f32 := broadcastInDim S4x4096x16x22 ![] bcast_S_S4x4096x16x22 main_v38
  let main_v40 : FVec F S4x4096x16x22 .f32 := mulf main_v39 main_v35
  let main_v41 : FVec F S4x4096x16x22 .f32 := addf main_v37 main_v40
  let main_v42 : FVec F S4x4096x16x1 .f32 := (extractStridedSlice S4x4096x16x1 ![0, 0, 0, 1] · slices_S4x4096x16x3_S4x4096x16x1_0_0_0_1) main_v7
  let main_v43 : FVec F S1x1x1x22 .f32 := broadcastInDim S1x1x1x22 ![2, 3] bcast_S1x22_S1x1x1x22_2_3 main_cst
  let main_v44 : FVec F S4x4096x16x22 .f32 := broadcastInDim S4x4096x16x22 ![0, 1, 2, 3] bcast_S4x4096x16x1_S4x4096x16x22_0_1_2_3 main_v42
  let main_v45 : FVec F S4x4096x16x22 .f32 := broadcastInDim S4x4096x16x22 ![0, 1, 2, 3] bcast_S1x1x1x22_S4x4096x16x22_0_1_2_3 main_v43
  let main_v46 : FVec F S4x4096x16x22 .f32 := subf main_v44 main_v45
  let main_cst_16 : FVec F S_ .f32 := constant S_ .f32 0x358637BD#32
  let main_v47 : FVec F S_ .f32 := addf main_v13 main_cst_16
  let main_v48 : FVec F S4x4096x16x22 .f32 := broadcastInDim S4x4096x16x22 ![] bcast_S_S4x4096x16x22 main_v47
  let main_v49 : FVec F S4x4096x16x22 .f32 := Host.divf main_v46 main_v48
  let main_v50 : FVec F S4x4096x16x22 .f32 := mulf main_v49 main_v49
  let main_cst_17 : FVec F S_ .f32 := constant S_ .f32 0xBF000000#32
  let main_v51 : FVec F S4x4096x16x22 .f32 := broadcastInDim S4x4096x16x22 ![] bcast_S_S4x4096x16x22 main_cst_17
  fn_part3 (F := F) main_cst main_c main_v2 main_v7 main_v13 main_v19 main_v41 main_v46 main_v50 main_v51

def fn_part1 {F : FTy → Type} [FloatOps F] (main_cst : FVec F S1x22 .f32) (main_c : IVec S64 32) (main_v2 : FVec F S4x64 .f32) (main_v7 : FVec F S4x4096x16x3 .f32) (main_v11 : FVec F S_ .f32) (main_v13 : FVec F S_ .f32) : IVec S_ 1 :=
  let main_cst_8 : FVec F S_ .f32 := constant S_ .f32 0x3DCCCCCD#32
  let main_v14 : FVec F S_ .f32 := subf main_v11 main_cst_8
  let main_cst_9 : FVec F S_ .f32 := constant S_ .f32 0x41200000#32
  let main_v15 : FVec F S_ .f32 := mulf main_v14 main_cst_9
  let main_v16 : FVec F S_ .f32 := Host.negf main_v15
  let main_v17 : FVec F S_ .f32 := Host.exp main_v16
  let main_cst_10 : FVec F S_ .f32 := constant S_ .f32 0x3F800000#32
  let main_v18 : FVec F S_ .f32 := addf main_cst_10 main_v17
  let main_cst_11 : FVec F S_ .f32 := constant S_ .f32 0x3F800000#32
  let main_v19 : FVec F S_ .f32 := Host.divf main_cst_11 main_v18
  let main_v20 : FVec F S4x4096x16x1 .f32 := (extractStridedSlice S4x4096x16x1 ![0, 0, 0, 0] · slices_S4x4096x16x3_S4x4096x16x1_0_0_0_0) main_v7
  let main_v21 : FVec F S1x1x1x22 .f32 := broadcastInDim S1x1x1x22 ![2, 3] bcast_S1x22_S1x1x1x22_2_3 main_cst
  let main_v22 : FVec F S4x4096x16x22 .f32 := broadcastInDim S4x4096x16x22 ![0, 1, 2, 3] bcast_S4x4096x16x1_S4x4096x16x22_0_1_2_3 main_v20
  let main_v23 : FVec F S4x4096x16x22 .f32 := broadcastInDim S4x4096x16x22 ![0, 1, 2, 3] bcast_S1x1x1x22_S4x4096x16x22_0_1_2_3 main_v21
  let main_v24 : FVec F S4x4096x16x22 .f32 := subf main_v22 main_v23
  let main_cst_12 : FVec F S_ .f32 := constant S_ .f32 0x358637BD#32
  let main_v25 : FVec F S_ .f32 := addf main_v13 main_cst_12
  let main_v26 : FVec F S4x4096x16x22 .f32 := broadcastInDim S4x4096x16x22 ![] bcast_S_S4x4096x16x22 main_v25
  let main_v27 : FVec F S4x4096x16x22 .f32 := Host.divf main_v24 main_v26
  let main_v28 : FVec F S4x4096x16x22 .f32 := mulf main_v27 main_v27
  let main_cst_13 : FVec F S_ .f32 := constant S_ .f32 0xBF000000#32
  let main_v29 : FVec F S4x4096x16x22 .f32 := broadcastInDim S4x4096x16x22 ![] bcast_S_S4x4096x16x22 main_cst_13
  let main_v30 : FVec F S4x4096x16x22 .f32 := mulf main_v29 main_v28
  let main_v31 : FVec F S4x4096x16x22 .f32 := Host.exp main_v30
  fn_part2 (F := F) main_cst main_c main_v2 main_v7 main_v13 main_v19 main_v24 main_v31

def fn {F : FTy → Type} [FloatOps F] (main_arg0 : FVec F S4x4096x48 .f32) (main_arg1 : FVec F S4x8x48 .f32) (main_arg2 : FVec F S4x1x64 .f32) : IVec S_ 1 :=
  let main_cst : FVec F S1x22 .f32 := fun i => FloatOps.ofBits .f32 (lit0 (S1x22.rowMajor i))
  let main_c : IVec S64 32 := fun i => lit1 (S64.rowMajor i)
  let main_v0 : FVec F S4x64 .f32 := shapeCast S4x64 main_arg2 shapeCasts_S4x1x64_S4x64
  let main_cst_0 : FVec F S_ .f32 := constant S_ .f32 0x39800000#32
  let main_v1 : FVec F S4x64 .f32 := broadcastInDim S4x64 ![] bcast_S_S4x64 main_cst_0
  let main_v2 : FVec F S4x64 .f32 := mulf main_v0 main_v1
  let main_v3 : FVec F S4x4096x16x3 .f32 := shapeCast S4x4096x16x3 main_arg0 shapeCasts_S4x4096x48_S4x4096x16x3
  let main_c_1 : IVec S_ 32 := constantI S_ 32 1#32
  let main_v4 : FVec F S1x1x16x1 .f32 := fn_std (F := F) main_v3 main_c_1
  let main_cst_2 : FVec F S_ .f32 := constant S_ .f32 0x3727C5AC#32
  let main_v5 : FVec F S1x1x16x1 .f32 := fn_clip (F := F) main_v4 main_cst_2
  let main_v6 : FVec F S4x4096x16x3 .f32 := broadcastInDim S4x4096x16x3 ![0, 1, 2, 3] bcast_S1x1x16x1_S4x4096x16x3_0_1_2_3 main_v5
  let main_v7 : FVec F S4x4096x16x3 .f32 := Host.divf main_v3 main_v6
  let main_v8 : FVec F S4x65536x3 .f32 := shapeCast S4x65536x3 main_v7 shapeCasts_S4x4096x16x3_S4x65536x3
  let main_c_3 : IVec S_ 32 := constantI S_ 32 1#32
  let main_v9 : FVec F S4x3 .f32 := fn_std_0 (F := F) main_v8 main_c_3
  let main_cst_4 : FVec F S_ .f32 := constant S_ .f32 0x00000000#32
  let main_v10 : FVec F S_ .f32 := (fun x v => Host.reduceAdd x v reducesTo_S4x3_S_d0_1 h_S_) main_v9 main_cst_4
  let main_cst_5 : FVec F S_ .f32 := constant S_ .f32 0x41400000#32
  let main_v11 : FVec F S_ .f32 := Host.divf main_v10 main_cst_5
  let main_cst_6 : FVec F S_ .f32 := constant S_ .f32 0x3F800000#32
  let main_v12 : FVec F S_ .f32 := addf main_cst_6 main_v11
  let main_cst_7 : FVec F S_ .f32 := constant S_ .f32 0x3E99999A#32
  let main_v13 : FVec F S_ .f32 := mulf main_cst_7 main_v12
  fn_part1 (F := F) main_cst main_c main_v2 main_v7 main_v11 main_v13
-- ==== Pre_in_range.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) : IVec S_ 1 :=
  let main_v0 : FVec F S4x4096x3 .f32 := Host.absf main_arg0
  let main_cst : FVec F S_ .f32 := constant S_ .f32 0x5D800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  main_v3
-- ==== Pre_summed.lean ====
abbrev S4x4096x48 : Shape := ⟨3, ![4, 4096, 48]⟩
abbrev S4x8x48 : Shape := ⟨3, ![4, 8, 48]⟩
abbrev S_ : Shape := ⟨0, ![]⟩
abbrev S4x48 : Shape := ⟨2, ![4, 48]⟩
abbrev S4x4096x16x3 : Shape := ⟨4, ![4, 4096, 16, 3]⟩
abbrev S16 : Shape := ⟨1, ![16]⟩
abbrev S1x1x16x1 : Shape := ⟨4, ![1, 1, 16, 1]⟩
abbrev S4x1x48 : Shape := ⟨3, ![4, 1, 48]⟩

class Facts : Prop where
  reducesTo_S4x4096x48_S4x48_d1 : S4x4096x48.ReducesTo [1] S4x48
  h_S_ : 0 < S_.numel
  shapeCasts_S4x4096x48_S4x4096x16x3 : S4x4096x48.ShapeCasts S4x4096x16x3
  reducesTo_S4x4096x16x3_S16_d0_1_3 : S4x4096x16x3.ReducesTo [0, 1, 3] S16
  bcast_S16_S1x1x16x1_2 : S16.BroadcastsInDim S1x1x16x1 (![2] : Fin 1 → Fin S1x1x16x1.rank)
  bcast_S_S1x1x16x1 : S_.BroadcastsInDim S1x1x16x1 (![] : Fin 0 → Fin S1x1x16x1.rank)
  bcast_S1x1x16x1_S4x4096x16x3_0_1_2_3 : S1x1x16x1.BroadcastsInDim S4x4096x16x3 (![0, 1, 2, 3] : Fin 4 → Fin S4x4096x16x3.rank)
  bcast_S_S4x4096x48 : S_.BroadcastsInDim S4x4096x48 (![] : Fin 0 → Fin S4x4096x48.rank)
  reducesTo_S4x4096x48_S_d0_1_2 : S4x4096x48.ReducesTo [0, 1, 2] S_
  slices_S4x8x48_S4x1x48_0_0_0 : S4x8x48.Slices ![0, 0, 0] S4x1x48
  shapeCasts_S4x1x48_S4x48 : S4x1x48.ShapeCasts S4x48
  reducesTo_S4x48_S_d0_1 : S4x48.ReducesTo [0, 1] S_
  slices_S4x8x48_S4x1x48_0_1_0 : S4x8x48.Slices ![0, 1, 0] S4x1x48
  reducesTo_S4x4096x16x3_S_d0_1_2_3 : S4x4096x16x3.ReducesTo [0, 1, 2, 3] S_

variable [Facts]

def fn_where {F : FTy → Type} [FloatOps F] (arg0 : IVec S_ 1) (arg1 : FVec F S1x1x16x1 .f32) (arg2 : FVec F S_ .f32) : FVec F S1x1x16x1 .f32 :=
  let v0 : FVec F S_ .f32 := id arg2
  let v1 : FVec F S1x1x16x1 .f32 := broadcastInDim S1x1x16x1 ![] bcast_S_S1x1x16x1 v0
  let v2 : FVec F S1x1x16x1 .f32 := (fun p a b => select (broadcastInDim S1x1x16x1 ![] bcast_S_S1x1x16x1 p) a b) arg0 arg1 v1
  v2

def fn_var {F : FTy → Type} [FloatOps F] (arg0 : FVec F S4x4096x16x3 .f32) (arg1 : IVec S_ 32) : FVec F S1x1x16x1 .f32 :=
  let cst : FVec F S_ .f32 := constant S_ .f32 0x00000000#32
  let v0 : FVec F S16 .f32 := (fun x v => Host.reduceAdd x v reducesTo_S4x4096x16x3_S16_d0_1_3 h_S_) arg0 cst
  let v1 : FVec F S1x1x16x1 .f32 := broadcastInDim S1x1x16x1 ![2] bcast_S16_S1x1x16x1_2 v0
  let cst_0 : FVec F S_ .f32 := constant S_ .f32 0x47400000#32
  let v2 : FVec F S1x1x16x1 .f32 := broadcastInDim S1x1x16x1 ![] bcast_S_S1x1x16x1 cst_0
  let v3 : FVec F S1x1x16x1 .f32 := Host.divf v1 v2
  let v4 : FVec F S4x4096x16x3 .f32 := broadcastInDim S4x4096x16x3 ![0, 1, 2, 3] bcast_S1x1x16x1_S4x4096x16x3_0_1_2_3 v3
  let v5 : FVec F S4x4096x16x3 .f32 := subf arg0 v4
  let v6 : FVec F S4x4096x16x3 .f32 := mulf v5 v5
  let v7 : FVec F S_ .f32 := sitofp .f32 arg1
  let cst_1 : FVec F S_ .f32 := constant S_ .f32 0x47400000#32
  let v8 : FVec F S_ .f32 := subf cst_1 v7
  let cst_2 : FVec F S_ .f32 := constant S_ .f32 0x00000000#32
  let v9 : FVec F S16 .f32 := (fun x v => Host.reduceAdd x v reducesTo_S4x4096x16x3_S16_d0_1_3 h_S_) v6 cst_2
  let v10 : FVec F S1x1x16x1 .f32 := broadcastInDim S1x1x16x1 ![2] bcast_S16_S1x1x16x1_2 v9
  let v11 : FVec F S1x1x16x1 .f32 := broadcastInDim S1x1x16x1 ![] bcast_S_S1x1x16x1 v8
  let v12 : FVec F S1x1x16x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x1x16x1 .f32 := fn_where (F := F) v13 v12 cst_4
  v14

def fn_std {F : FTy → Type} [FloatOps F] (arg0 : FVec F S4x4096x16x3 .f32) (arg1 : IVec S_ 32) : FVec F S1x1x16x1 .f32 :=
  let v0 : FVec F S1x1x16x1 .f32 := fn_var (F := F) arg0 arg1
  let v1 : FVec F S1x1x16x1 .f32 := Host.sqrt v0
  v1

def fn_clip {F : FTy → Type} [FloatOps F] (arg0 : FVec F S1x1x16x1 .f32) (arg1 : FVec F S_ .f32) : FVec F S1x1x16x1 .f32 :=
  let v0 : FVec F S_ .f32 := id arg1
  let v1 : FVec F S1x1x16x1 .f32 := broadcastInDim S1x1x16x1 ![] bcast_S_S1x1x16x1 v0
  let v2 : FVec F S1x1x16x1 .f32 := maximumf v1 arg0
  v2

def fn_part1 {F : FTy → Type} [FloatOps F] (main_v2 : FVec F S4x48 .f32) (main_v3 : FVec F S4x4096x16x3 .f32) (main_v5 : FVec F S1x1x16x1 .f32) (main_v14 : IVec S_ 1) (main_v16 : FVec F S4x48 .f32) : IVec S_ 1 :=
  let main_v17 : IVec S4x48 1 := cmpf .oeq main_v16 main_v2
  let main_c_5 : IVec S_ 1 := constantI S_ 1 1#1
  let main_v18 : IVec S_ 1 := (fun x v => Host.reduce IntOp.andi x v reducesTo_S4x48_S_d0_1 h_S_) main_v17 main_c_5
  let main_v19 : IVec S_ 1 := andi main_v14 main_v18
  let main_v20 : FVec F S4x4096x16x3 .f32 := Host.absf main_v3
  let main_cst_6 : FVec F S_ .f32 := constant S_ .f32 0x45800000#32
  let main_v21 : FVec F S1x1x16x1 .f32 := broadcastInDim S1x1x16x1 ![] bcast_S_S1x1x16x1 main_cst_6
  let main_v22 : FVec F S1x1x16x1 .f32 := mulf main_v21 main_v5
  let main_v23 : FVec F S4x4096x16x3 .f32 := broadcastInDim S4x4096x16x3 ![0, 1, 2, 3] bcast_S1x1x16x1_S4x4096x16x3_0_1_2_3 main_v22
  let main_v24 : IVec S4x4096x16x3 1 := cmpf .ole main_v20 main_v23
  let main_c_7 : IVec S_ 1 := constantI S_ 1 1#1
  let main_v25 : IVec S_ 1 := (fun x v => Host.reduce IntOp.andi x v reducesTo_S4x4096x16x3_S_d0_1_2_3 h_S_) main_v24 main_c_7
  let main_v26 : IVec S_ 1 := andi main_v19 main_v25
  main_v26

def fn {F : FTy → Type} [FloatOps F] (main_arg0 : FVec F S4x4096x48 .f32) (main_arg1 : FVec F S4x8x48 .f32) : IVec S_ 1 :=
  let main_cst : FVec F S_ .f32 := constant S_ .f32 0x00000000#32
  let main_v0 : FVec F S4x48 .f32 := (fun x v => Host.reduceAdd x v reducesTo_S4x4096x48_S4x48_d1 h_S_) main_arg0 main_cst
  let main_v1 : FVec F S4x4096x48 .f32 := mulf main_arg0 main_arg0
  let main_cst_0 : FVec F S_ .f32 := constant S_ .f32 0x00000000#32
  let main_v2 : FVec F S4x48 .f32 := (fun x v => Host.reduceAdd x v reducesTo_S4x4096x48_S4x48_d1 h_S_) main_v1 main_cst_0
  let main_v3 : FVec F S4x4096x16x3 .f32 := shapeCast S4x4096x16x3 main_arg0 shapeCasts_S4x4096x48_S4x4096x16x3
  let main_c : IVec S_ 32 := constantI S_ 32 1#32
  let main_v4 : FVec F S1x1x16x1 .f32 := fn_std (F := F) main_v3 main_c
  let main_cst_1 : FVec F S_ .f32 := constant S_ .f32 0x3727C5AC#32
  let main_v5 : FVec F S1x1x16x1 .f32 := fn_clip (F := F) main_v4 main_cst_1
  let main_v6 : FVec F S4x4096x48 .f32 := Host.absf main_arg0
  let main_cst_2 : FVec F S_ .f32 := constant S_ .f32 0x5D800000#32
  let main_v7 : FVec F S4x4096x48 .f32 := broadcastInDim S4x4096x48 ![] bcast_S_S4x4096x48 main_cst_2
  let main_v8 : IVec S4x4096x48 1 := cmpf .olt main_v6 main_v7
  let main_c_3 : IVec S_ 1 := constantI S_ 1 1#1
  let main_v9 : IVec S_ 1 := (fun x v => Host.reduce IntOp.andi x v reducesTo_S4x4096x48_S_d0_1_2 h_S_) main_v8 main_c_3
  let main_v10 : FVec F S4x1x48 .f32 := (extractStridedSlice S4x1x48 ![0, 0, 0] · slices_S4x8x48_S4x1x48_0_0_0) main_arg1
  let main_v11 : FVec F S4x48 .f32 := shapeCast S4x48 main_v10 shapeCasts_S4x1x48_S4x48
  let main_v12 : IVec S4x48 1 := cmpf .oeq main_v11 main_v0
  let main_c_4 : IVec S_ 1 := constantI S_ 1 1#1
  let main_v13 : IVec S_ 1 := (fun x v => Host.reduce IntOp.andi x v reducesTo_S4x48_S_d0_1 h_S_) main_v12 main_c_4
  let main_v14 : IVec S_ 1 := andi main_v9 main_v13
  let main_v15 : FVec F S4x1x48 .f32 := (extractStridedSlice S4x1x48 ![0, 1, 0] · slices_S4x8x48_S4x1x48_0_1_0) main_arg1
  let main_v16 : FVec F S4x48 .f32 := shapeCast S4x48 main_v15 shapeCasts_S4x1x48_S4x48
  fn_part1 (F := F) main_v2 main_v3 main_v5 main_v14 main_v16
-- ==== Knn.lean ====
abbrev S4x4096x3 : Shape := ⟨3, ![4, 4096, 3]⟩
abbrev S4x3x4096 : Shape := ⟨3, ![4, 3, 4096]⟩
abbrev S_ : Shape := ⟨0, ![]⟩
abbrev S4x4096x7 : Shape := ⟨3, ![4, 4096, 7]⟩
abbrev S4x4096x16 : Shape := ⟨3, ![4, 4096, 16]⟩
abbrev S4x4096x48 : Shape := ⟨3, ![4, 4096, 48]⟩
abbrev S4x8x48 : Shape := ⟨3, ![4, 8, 48]⟩
abbrev S1x3x4096 : Shape := ⟨3, ![1, 3, 4096]⟩
abbrev S1x512x3 : Shape := ⟨3, ![1, 512, 3]⟩
abbrev S1x4096x16 : Shape := ⟨3, ![1, 4096, 16]⟩
abbrev S1x512x48 : Shape := ⟨3, ![1, 512, 48]⟩
abbrev S1x8x48 : Shape := ⟨3, ![1, 8, 48]⟩
abbrev S3x4096 : Shape := ⟨2, ![3, 4096]⟩
abbrev S512x3 : Shape := ⟨2, ![512, 3]⟩
abbrev S4096x16 : Shape := ⟨2, ![4096, 16]⟩
abbrev S512x4096 : Shape := ⟨2, ![512, 4096]⟩
abbrev S512x1 : Shape := ⟨2, ![512, 1]⟩
abbrev S1x4096 : Shape := ⟨2, ![1, 4096]⟩
abbrev S512x128 : Shape := ⟨2, ![512, 128]⟩
abbrev S512 : Shape := ⟨1, ![512]⟩
abbrev S512x16 : Shape := ⟨2, ![512, 16]⟩
abbrev S3 : Shape := ⟨1, ![3]⟩
abbrev S1x3 : Shape := ⟨2, ![1, 3]⟩
abbrev S1x48 : Shape := ⟨2, ![1, 48]⟩
abbrev S6x48 : Shape := ⟨2, ![6, 48]⟩
abbrev S8x48 : Shape := ⟨2, ![8, 48]⟩

abbrev nBuf : Space → Nat
  | .hbm => 14
  | .vmem => 10
  | .smem => 0
  | _ => 0

abbrev bufTy : (tb : Table) → Fin (tcTables nBuf tb) → BufTy
  | .hbm, ⟨0, _⟩ => ⟨S4x4096x3, .f32⟩
  | .hbm, ⟨1, _⟩ => ⟨S4x3x4096, .f32⟩
  | .hbm, ⟨2, _⟩ => ⟨S4x4096x3, .bf16⟩
  | .hbm, ⟨3, _⟩ => ⟨S4x4096x3, .f32⟩
  | .hbm, ⟨4, _⟩ => ⟨S4x4096x3, .f32⟩
  | .hbm, ⟨5, _⟩ => ⟨S4x4096x3, .bf16⟩
  | .hbm, ⟨6, _⟩ => ⟨S4x4096x3, .f32⟩
  | .hbm, ⟨7, _⟩ => ⟨S4x4096x3, .f32⟩
  | .hbm, ⟨8, _⟩ => ⟨S4x4096x3, .bf16⟩
  | .hbm, ⟨9, _⟩ => ⟨S_, .bf16⟩
  | .hbm, ⟨10, _⟩ => ⟨S4x4096x7, .bf16⟩
  | .hbm, ⟨11, _⟩ => ⟨S4x4096x16, .bf16⟩
  | .hbm, ⟨12, _⟩ => ⟨S4x4096x48, .f32⟩
  | .hbm, ⟨13, _⟩ => ⟨S4x8x48, .f32⟩
  | .local _ .vmem, ⟨0, _⟩ => ⟨S1x3x4096, .f32⟩
  | .local _ .vmem, ⟨1, _⟩ => ⟨S1x3x4096, .f32⟩
  | .local _ .vmem, ⟨2, _⟩ => ⟨S1x512x3, .f32⟩
  | .local _ .vmem, ⟨3, _⟩ => ⟨S1x512x3, .f32⟩
  | .local _ .vmem, ⟨4, _⟩ => ⟨S1x4096x16, .bf16⟩
  | .local _ .vmem, ⟨5, _⟩ => ⟨S1x4096x16, .bf16⟩
  | .local _ .vmem, ⟨6, _⟩ => ⟨S1x512x48, .f32⟩
  | .local _ .vmem, ⟨7, _⟩ => ⟨S1x512x48, .f32⟩
  | .local _ .vmem, ⟨8, _⟩ => ⟨S1x8x48, .f32⟩
  | .local _ .vmem, ⟨9, _⟩ => ⟨S1x8x48, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v694 : BitVec 1 := Scalar.cmpi .eq arg1 c0_i32
  let v695 : BitVec 32 := Scalar.extui v694
  let c0_i32_125 : BitVec 32 := 0#32
  let v696 : BitVec 1 := Scalar.cmpi .ne v695 c0_i32_125
  v696

def k0_cond2 (i : grid0.Coords) : BitVec 1 :=
  let arg1 : BitVec 32 := BitVec.ofNat 32 (i 1).val
  let c0_i32_126 : BitVec 32 := 0#32
  let v697 : BitVec 1 := Scalar.cmpi .ne arg1 c0_i32_126
  let v698 : BitVec 32 := Scalar.extui v697
  let c0_i32_127 : BitVec 32 := 0#32
  let v699 : BitVec 1 := Scalar.cmpi .ne v698 c0_i32_127
  v699

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KnnRefIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x17 : Shape := ⟨3, ![4, 4096, 17]⟩
abbrev S4x4096x16 : Shape := ⟨3, ![4, 4096, 16]⟩
abbrev S4x4096x16x1 : Shape := ⟨4, ![4, 4096, 16, 1]⟩
abbrev S4x4096x16x3 : Shape := ⟨4, ![4, 4096, 16, 3]⟩
abbrev S4x4096x1x3 : Shape := ⟨4, ![4, 4096, 1, 3]⟩
abbrev S4x16x3 : Shape := ⟨3, ![4, 16, 3]⟩
abbrev S4x1x48 : Shape := ⟨3, ![4, 1, 48]⟩
abbrev S4x6x48 : Shape := ⟨3, ![4, 6, 48]⟩
abbrev S4x8x48 : Shape := ⟨3, ![4, 8, 48]⟩
abbrev S4x4096x48 : Shape := ⟨3, ![4, 4096, 48]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S_, .f32⟩
  | .hbm, ⟨3, _⟩ => ⟨S4x4096, .f32⟩
  | .hbm, ⟨4, _⟩ => ⟨S4x4096x1, .f32⟩
  | .hbm, ⟨5, _⟩ => ⟨S4x1x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S4x4096x17, .f32⟩
  | .hbm, ⟨21, _⟩ => ⟨S4x4096x17, .i32⟩
  | .hbm, ⟨22, _⟩ => ⟨S4x4096x16, .i32⟩
  | .hbm, ⟨23, _⟩ => ⟨S_, .i32⟩
  | .hbm, ⟨24, _⟩ => ⟨S4x4096x16, .i32⟩
  | .hbm, ⟨25, _⟩ => ⟨S4x4096x16, .i1⟩
  | .hbm, ⟨26, _⟩ => ⟨S_, .i32⟩
  | .hbm, ⟨27, _⟩ => ⟨S4x4096x16, .i32⟩
  | .hbm, ⟨28, _⟩ => ⟨S4x4096x16, .i32⟩
  | .hbm, ⟨29, _⟩ => ⟨S4x4096x16, .i32⟩
  | .hbm, ⟨30, _⟩ => ⟨S4x4096x16x1, .i32⟩
  | .hbm, ⟨31, _⟩ => ⟨S4x4096x16x3, .f32⟩
  | .hbm, ⟨32, _⟩ => ⟨S4x4096x1x3, .f32⟩
  | .hbm, ⟨33, _⟩ => ⟨S4x4096x16x3, .f32⟩
  | .hbm, ⟨34, _⟩ => ⟨S4x4096x16x3, .f32⟩
  | .hbm, ⟨35, _⟩ => ⟨S_, .f32⟩
  | .hbm, ⟨36, _⟩ => ⟨S4x16x3, .f32⟩
  | .hbm, ⟨37, _⟩ => ⟨S4x1x48, .f32⟩
  | .hbm, ⟨38, _⟩ => ⟨S4x4096x16x3, .f32⟩
  | .hbm, ⟨39, _⟩ => ⟨S_, .f32⟩
  | .hbm, ⟨40, _⟩ => ⟨S4x16x3, .f32⟩
  | .hbm, ⟨41, _⟩ => ⟨S4x1x48, .f32⟩
  | .hbm, ⟨42, _⟩ => ⟨S_, .f32⟩
  | .hbm, ⟨43, _⟩ => ⟨S4x6x48, .f32⟩
  | .hbm, ⟨44, _⟩ => ⟨S4x8x48, .f32⟩
  | .hbm, ⟨45, _⟩ => ⟨S4x4096x48, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Gpe.lean ====
abbrev S4x4096x48 : Shape := ⟨3, ![4, 4096, 48]⟩
abbrev S4x8x48 : Shape := ⟨3, ![4, 8, 48]⟩
abbrev S128 : Shape := ⟨1, ![128]⟩
abbrev S1x128 : Shape := ⟨2, ![1, 128]⟩
abbrev S6x128 : Shape := ⟨2, ![6, 128]⟩
abbrev S4x1x48 : Shape := ⟨3, ![4, 1, 48]⟩
abbrev S4x48 : Shape := ⟨2, ![4, 48]⟩
abbrev S4x16x3 : Shape := ⟨3, ![4, 16, 3]⟩
abbrev S_ : Shape := ⟨0, ![]⟩
abbrev S16 : Shape := ⟨1, ![16]⟩
abbrev S4x3 : Shape := ⟨2, ![4, 3]⟩
abbrev S8x2 : Shape := ⟨2, ![8, 2]⟩
abbrev S8x2x64 : Shape := ⟨3, ![8, 2, 64]⟩
abbrev S8x128 : Shape := ⟨2, ![8, 128]⟩
abbrev S16x128 : Shape := ⟨2, ![16, 128]⟩
abbrev S4x1x64 : Shape := ⟨3, ![4, 1, 64]⟩
abbrev S1x512x48 : Shape := ⟨3, ![1, 512, 48]⟩
abbrev S1x1x64 : Shape := ⟨3, ![1, 1, 64]⟩
abbrev S512x48 : Shape := ⟨2, ![512, 48]⟩
abbrev S512x128 : Shape := ⟨2, ![512, 128]⟩
abbrev S512x1 : Shape := ⟨2, ![512, 1]⟩
abbrev S512x64 : Shape := ⟨2, ![512, 64]⟩
abbrev S64 : Shape := ⟨1, ![64]⟩
abbrev S1x64 : Shape := ⟨2, ![1, 64]⟩

abbrev nBuf : Space → Nat
  | .hbm => 81
  | .vmem => 5
  | .smem => 0
  | _ => 0

abbrev bufTy : (tb : Table) → Fin (tcTables nBuf tb) → BufTy
  | .hbm, ⟨0, _⟩ => ⟨S4x4096x48, .f32⟩
  | .hbm, ⟨1, _⟩ => ⟨S4x8x48, .f32⟩
  | .hbm, ⟨2, _⟩ => ⟨S128, .f32⟩
  | .hbm, ⟨3, _⟩ => ⟨S1x128, .f32⟩
  | .hbm, ⟨4, _⟩ => ⟨S6x128, .f32⟩
  | .hbm, ⟨5, _⟩ => ⟨S4x1x48, .f32⟩
  | .hbm, ⟨6, _⟩ => ⟨S4x48, .f32⟩
  | .hbm, ⟨7, _⟩ => ⟨S4x16x3, .f32⟩
  | .hbm, ⟨8, _⟩ => ⟨S4x1x48, .f32⟩
  | .hbm, ⟨9, _⟩ => ⟨S4x48, .f32⟩
  | .hbm, ⟨10, _⟩ => ⟨S4x16x3, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S4x3, .f32⟩
  | .hbm, ⟨35, _⟩ => ⟨S16, .f32⟩
  | .hbm, ⟨36, _⟩ => ⟨S4x3, .f32⟩
  | .hbm, ⟨37, _⟩ => ⟨S4x3, .f32⟩
  | .hbm, ⟨38, _⟩ => ⟨S_, .f32⟩
  | .hbm, ⟨39, _⟩ => ⟨S4x3, .f32⟩
  | .hbm, ⟨40, _⟩ => ⟨S4x3, .f32⟩
  | .hbm, ⟨41, _⟩ => ⟨S4x3, .f32⟩
  | .hbm, ⟨42, _⟩ => ⟨S_, .f32⟩
  | .hbm, ⟨43, _⟩ => ⟨S4x3, .f32⟩
  | .hbm, ⟨44, _⟩ => ⟨S4x3, .f32⟩
  | .hbm, ⟨45, _⟩ => ⟨S_, .f32⟩
  | .hbm, ⟨46, _⟩ => ⟨S4x3, .f32⟩
  | .hbm, ⟨47, _⟩ => ⟨S4x3, .f32⟩
  | .hbm, ⟨48, _⟩ => ⟨S4x3, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S8x2, .f32⟩
  | .hbm, ⟨74, _⟩ => ⟨S8x2x64, .f32⟩
  | .hbm, ⟨75, _⟩ => ⟨S8x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S16x128, .f32⟩
  | .hbm, ⟨80, _⟩ => ⟨S4x1x64, .f32⟩
  | .local _ .vmem, ⟨0, _⟩ => ⟨S1x512x48, .f32⟩
  | .local _ .vmem, ⟨1, _⟩ => ⟨S1x512x48, .f32⟩
  | .local _ .vmem, ⟨2, _⟩ => ⟨S16x128, .f32⟩
  | .local _ .vmem, ⟨3, _⟩ => ⟨S1x1x64, .f32⟩
  | .local _ .vmem, ⟨4, _⟩ => ⟨S1x1x64, .f32⟩
  | _, _ => ⟨S4x4096x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_cst_13 : Ref sig .tc := ⟨.hbm, 53, rfl⟩
abbrev main_v35 : Ref sig .tc := ⟨.hbm, 54, rfl⟩
abbrev main_cst_14 : Ref sig .tc := ⟨.hbm, 55, rfl⟩
abbrev main_v36 : Ref sig .tc := ⟨.hbm, 56, rfl⟩
abbrev main_cst_15 : Ref sig .tc := ⟨.hbm, 57, rfl⟩
abbrev main_v37 : Ref sig .tc := ⟨.hbm, 58, rfl⟩
abbrev main_cst_16 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_17 : Ref sig .tc := ⟨.hbm, 63, rfl⟩
abbrev main_v41 : Ref sig .tc := ⟨.hbm, 64, rfl⟩
abbrev main_cst_18 : Ref sig .tc := ⟨.hbm, 65, rfl⟩
abbrev main_v42 : Ref sig .tc := ⟨.hbm, 66, rfl⟩
abbrev main_cst_19 : Ref sig .tc := ⟨.hbm, 67, rfl⟩
abbrev main_v43 : Ref sig .tc := ⟨.hbm, 68, rfl⟩
abbrev main_cst_20 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v612 : BitVec 1 := Scalar.cmpi .eq arg1 c0_i32
  let v613 : BitVec 32 := Scalar.extui v612
  let c0_i32_85 : BitVec 32 := 0#32
  let v614 : BitVec 1 := Scalar.cmpi .ne v613 c0_i32_85
  v614

def k0_cond2 (i : grid0.Coords) : BitVec 1 :=
  let arg1 : BitVec 32 := BitVec.ofNat 32 (i 1).val
  let c0_i32_86 : BitVec 32 := 0#32
  let v615 : BitVec 1 := Scalar.cmpi .ne arg1 c0_i32_86
  let v616 : BitVec 32 := Scalar.extui v615
  let c0_i32_87 : BitVec 32 := 0#32
  let v617 : BitVec 1 := Scalar.cmpi .ne v616 c0_i32_87
  v617

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Proof.Model.lean ====
module

public import proofs.«01_k».proof.Proof.Gen.KnnIdeal.Value

@[expose] public section

set_option maxRecDepth 16384

noncomputable section

/-! The kernel's one block in a few words: the three smallest distances kept per lane, the extraction of the
seventeen smallest, and the neighbour offsets read off by differences of masked sums. -/

namespace Cert.Near

open Idealize.ShloMosaic Cert.KnnIdeal Cert.KnnIdeal.Gen

variable {F : FTy → Type} [FloatOps F]

/-- One value per lane and row. -/
abbrev Lane (F : FTy → Type) := FVec F S512x128 .f32

/-- The constant that stands for an empty slot. -/
def big : Lane F := broadcast S512x128 (Scalar.ofBits .f32 0x7F61B1E6#32 : F .f32)

/-- The lane group `n` of the distances: columns `128 n` to `128 n + 127`. -/
def group (d : FVec F S512x4096 .f32) (n : ℕ) (h : S512x4096.Slices ![0, 128 * n] S512x128) : Lane F :=
  extractStridedSlice S512x128 ![0, 128 * n] d h

theorem slices (n : ℕ) (h : n < 32) : S512x4096.Slices ![0, 128 * n] S512x128 := by
  revert n; decide

/-- The three slots per lane. -/
abbrev Slots (F : FTy → Type) := Lane F × Lane F × Lane F

/-- A new value goes into the three slots, which stay in order. -/
def put (R : Slots F) (v : Lane F) : Slots F :=
  (minimumf R.1 v, minimumf R.2.1 (maximumf R.1 v), minimumf R.2.2 (maximumf R.2.1 (maximumf R.1 v)))

/-- The slots after the first `n` lane groups. -/
def fill (d : FVec F S512x4096 .f32) : (n : ℕ) → n ≤ 32 → Slots F
  | 0, _ => (big, big, big)
  | n + 1, h => put (fill d n (by omega)) (group d n (slices n (by omega)))

/-- The smallest first slot of each row. -/
def low (R : Slots F) : FVec F S512 .f32 :=
  multiReduction .minimumf [1] S512 R.1 0x7F800000#32 reduces_S512x128_S512 (.inl rfl) rfl

/-- The same as a column. -/
def lowCol (R : Slots F) : FVec F S512x1 .f32 := shapeCast S512x1 (low R) shapeCasts_S512_S512x1

/-- The lanes whose first slot is the smallest. -/
def hit (R : Slots F) : IVec S512x128 1 :=
  cmpf .ole R.1 (broadcastTo S512x128 (lowCol R) broadcasts_S512x1_S512x128)

/-- The smallest leaves its lane and the slots of that lane move up. -/
def pop (R : Slots F) : Slots F :=
  (select (hit R) R.2.1 R.1, select (hit R) R.2.2 R.2.1, select (hit R) big R.2.2)

/-- The slots after `k` extractions. -/
def left (d : FVec F S512x4096 .f32) : ℕ → Slots F
  | 0 => fill d 32 (le_refl 32)
  | k + 1 => pop (left d k)

/-- The `k`-th value extracted. -/
def cut (d : FVec F S512x4096 .f32) (k : ℕ) : FVec F S512x1 .f32 := lowCol (left d k)

/-- The table's rows whose distance is at most `w`, added up. -/
def within (d : FVec F S512x4096 .f32) (hl : FVec F S4096x16 .bf16) (w : FVec F S512x1 .f32) : FVec F S512x16 .f32 :=
  matmul dot_S512x4096_S4096x16_S512x16_1_0_0_1_n_n none
    (truncf .bf16 (sitofp .f32 (extui 32 (cmpf .ole d (broadcastTo S512x4096 w broadcasts_S512x1_S512x4096)) natLt_1_32)) bitsLt_bf16_f32)
    hl (constant S512x16 .f32 0x00000000#32)

/-- The three parts of the table put together and the centre taken off. -/
def parts (s : FVec F S512x16 .f32) (xr : FVec F S512x3 .f32) : FVec F S512x3 .f32 :=
  subf (addf (addf (extractStridedSlice S512x3 ![0, 0] s slices_S512x16_o0_0_S512x3)
    (extractStridedSlice S512x3 ![0, 3] s slices_S512x16_o0_3_S512x3))
    (extractStridedSlice S512x3 ![0, 6] s slices_S512x16_o0_6_S512x3)) xr

/-- The offsets of the neighbour number `k + 1`. -/
def off (xr : FVec F S512x3 .f32) (hl : FVec F S4096x16 .bf16) (d : FVec F S512x4096 .f32) (k : ℕ) : FVec F S512x3 .f32 :=
  parts (subf (within d hl (cut d (k + 1))) (within d hl (cut d k))) xr

/-- The column sums of a block. -/
def colSum (x : FVec F S512x3 .f32) : FVec F S1x3 .f32 :=
  shapeCast S1x3 (multiReduction .add [0] S3 x 0x00000000#32 reduces_S512x3_S3 (.inl rfl) rfl) shapeCasts_S3_S1x3

/-- Sixteen short rows side by side. -/
def side (g : ℕ → FVec F S1x3 .f32) : FVec F S1x48 .f32 :=
  concatenate S1x48 1 [⟨S1x3, g 0⟩, ⟨S1x3, g 1⟩, ⟨S1x3, g 2⟩, ⟨S1x3, g 3⟩, ⟨S1x3, g 4⟩, ⟨S1x3, g 5⟩, ⟨S1x3, g 6⟩, ⟨S1x3, g 7⟩, ⟨S1x3, g 8⟩, ⟨S1x3, g 9⟩, ⟨S1x3, g 10⟩, ⟨S1x3, g 11⟩, ⟨S1x3, g 12⟩, ⟨S1x3, g 13⟩, ⟨S1x3, g 14⟩, ⟨S1x3, g 15⟩] concatenates_S1x3_S1x3_S1x3_S1x3_S1x3_S1x3_S1x3_S1x3_S1x3_S1x3_S1x3_S1x3_S1x3_S1x3_S1x3_S1x3_S1x48_d1

/-- A block's sums of the offsets and of their squares, and six rows of zeros. -/
def sums (xr : FVec F S512x3 .f32) (hl : FVec F S4096x16 .bf16) (d : FVec F S512x4096 .f32) : FVec F S8x48 .f32 :=
  concatenate S8x48 0 [⟨S1x48, side fun k => colSum (off xr hl d k)⟩,
    ⟨S1x48, side fun k => colSum (mulf (off xr hl d k) (off xr hl d k))⟩,
    ⟨S6x48, broadcast S6x48 (Scalar.ofBits .f32 0x00000000#32 : F .f32)⟩] concatenates_S1x48_S1x48_S6x48_S8x48_d0

end Cert.Near
-- ==== Proof.Pieces.lean ====
module

public import proofs.«01_k».proof.Proof.Model
public import Idealize.ShloMosaic.Lib.WholeRead

@[expose] public section

set_option maxRecDepth 16384

noncomputable section

/-! What one block leaves in its two output buffers, in the words of the model. -/

namespace Cert.Near

open Idealize.ShloMosaic Cert.KnnIdeal Cert.KnnIdeal.Gen

variable {F : FTy → Type} [FloatOps F]

/-- A store of three columns lies in the block. -/
theorem inb (k : ℕ) (h : k < 16) : ∀ a, (![0, 0, 3 * k] : Fin 3 → Nat) a + S1x512x3.size a ≤ S1x512x48.size a := by
  revert k; decide

/-- The store of the offsets of neighbour number `k + 1`: columns `3 k` to `3 k + 2`. -/
def piece (v0 : Vec F S1x3x4096 .f32) (v2 : Vec F S1x512x3 .f32) (v4 : Vec F S1x4096x16 .bf16) (k : ℕ) (h : k < 16) :
    View.Piece (Elt F) S1x512x48 .f32 :=
  ⟨Rect.unit ![0, 0, 3 * k] S1x512x3.size (inb k h),
    shapeCast S1x512x3 (off (k0_pay7 v2) (k0_pay8 v4) (k0_pay9 v0 v2) k) shapeCasts_S512x3_S1x512x3⟩

/-- The sixteen stores, the last first. -/
def pieces (v0 : Vec F S1x3x4096 .f32) (v2 : Vec F S1x512x3 .f32) (v4 : Vec F S1x4096x16 .bf16) :
    List (View.Piece (Elt F) S1x512x48 .f32) :=
  [piece v0 v2 v4 15 (by omega), piece v0 v2 v4 14 (by omega), piece v0 v2 v4 13 (by omega), piece v0 v2 v4 12 (by omega),
   piece v0 v2 v4 11 (by omega), piece v0 v2 v4 10 (by omega), piece v0 v2 v4 9 (by omega), piece v0 v2 v4 8 (by omega),
   piece v0 v2 v4 7 (by omega), piece v0 v2 v4 6 (by omega), piece v0 v2 v4 5 (by omega), piece v0 v2 v4 4 (by omega),
   piece v0 v2 v4 3 (by omega), piece v0 v2 v4 2 (by omega), piece v0 v2 v4 1 (by omega), piece v0 v2 v4 0 (by omega)]

section
variable (c : Dev nD) (i : grid0.Coords) (arg2 : Memref sig .tc .vmem S1x3x4096 .f32) (harg2 : arg2.IsWhole) (arg3 : Memref sig .tc .vmem S1x512x3 .f32) (harg3 : arg3.IsWhole) (arg4 : Memref sig .tc .vmem S1x4096x16 .bf16) (harg4 : arg4.IsWhole) (arg5 : Memref sig .tc .vmem S1x512x48 .f32) (harg5 : arg5.IsWhole) (arg6 : Memref sig .tc .vmem S1x8x48 .f32) (harg6 : arg6.IsWhole)
    (x0 : Vec F S1x3x4096 .f32) (x1 : Vec F S1x512x3 .f32) (x2 : Vec F S1x4096x16 .bf16)

/-- What the block reads of the transposed points. -/
abbrev get0 : Vec F S1x3x4096 .f32 := View.readAt (Elt F) arg2.view (Rect.unit ![0, 0, 0] S1x3x4096.size inb_S1x3x4096_S1x3x4096_0_0_0).toLoadRect (harg2.unread x0)
/-- What the block reads of the centres. -/
abbrev get1 : Vec F S1x512x3 .f32 := View.readAt (Elt F) arg3.view (Rect.unit ![0, 0, 0] S1x512x3.size inb_S1x512x3_S1x512x3_0_0_0).toLoadRect (harg3.unread x1)
/-- What the block reads of the table. -/
abbrev get2 : Vec F S1x4096x16 .bf16 := View.readAt (Elt F) arg4.view (Rect.unit ![0, 0, 0] S1x4096x16.size inb_S1x4096x16_S1x4096x16_0_0_0).toLoadRect (harg4.unread x2)

/-- The sixteen stores of the offsets at a cloud's first block. -/
theorem piecesA (hc0 : cond0_0 i) (hc1 : ¬cond0_1 i) :
    (kernelRun0_A c i arg2 harg2 arg3 harg3 arg4 harg4 arg5 harg5 arg6 harg6 hc0 hc1 x0 x1 x2).1
      = pieces (get0 arg2 harg2 x0) (get1 arg3 harg3 x1) (get2 arg4 harg4 x2) := by
  sl_kernel_rfl

/-- The one store of the sums at a cloud's first block. -/
theorem pieceA (hc0 : cond0_0 i) (hc1 : ¬cond0_1 i) :
    (kernelRun0_A c i arg2 harg2 arg3 harg3 arg4 harg4 arg5 harg5 arg6 harg6 hc0 hc1 x0 x1 x2).2.1
      = [⟨Rect.unit ![0, 0, 0] S1x8x48.size inb_S1x8x48_S1x8x48_0_0_0,
          k0_pay5 (sums (k0_pay7 (get1 arg3 harg3 x1)) (k0_pay8 (get2 arg4 harg4 x2)) (k0_pay9 (get0 arg2 harg2 x0) (get1 arg3 harg3 x1)))⟩] := by
  sl_kernel_rfl

variable (xo4 : Vec F S1x8x48 .f32)

/-- What the block reads of the sums so far. -/
abbrev get4 : Vec F S1x8x48 .f32 := View.readAt (Elt F) arg6.view (Rect.unit ![0, 0, 0] S1x8x48.size inb_S1x8x48_S1x8x48_0_0_0).toLoadRect (harg6.unread xo4)

/-- The sixteen stores of the offsets at a cloud's later block. -/
theorem piecesB (hc0 : ¬cond0_0 i) (hc1 : cond0_1 i) :
    (kernelRun0_B c i arg2 harg2 arg3 harg3 arg4 harg4 arg5 harg5 arg6 harg6 hc0 hc1 x0 x1 x2 xo4).1
      = pieces (get0 arg2 harg2 x0) (get1 arg3 harg3 x1) (get2 arg4 harg4 x2) := by
  sl_kernel_rfl

/-- The one store of the sums at a cloud's later block. -/
theorem pieceB (hc0 : ¬cond0_0 i) (hc1 : cond0_1 i) :
    (kernelRun0_B c i arg2 harg2 arg3 harg3 arg4 harg4 arg5 harg5 arg6 harg6 hc0 hc1 x0 x1 x2 xo4).2.1
      = [⟨Rect.unit ![0, 0, 0] S1x8x48.size inb_S1x8x48_S1x8x48_0_0_0,
          k0_pay6 (sums (k0_pay7 (get1 arg3 harg3 x1)) (k0_pay8 (get2 arg4 harg4 x2)) (k0_pay9 (get0 arg2 harg2 x0) (get1 arg3 harg3 x1)))
            (get4 arg6 harg6 xo4)⟩] := by
  sl_kernel_rfl

/-- The block of transposed points is read whole. -/
theorem get0_eq : get0 arg2 harg2 x0 = x0 := by
  funext z
  rw [get0, Memref.IsWhole.readAt_unread]
  congr 1
  funext a
  apply Fin.ext
  fin_cases a
  · simp [LoadRect.idx, Rect.unit]
    exact (Nat.lt_one_iff.1 (z 0).isLt).symm
  all_goals simp [LoadRect.idx, Rect.unit]

/-- The block of centres is read whole. -/
theorem get1_eq : get1 arg3 harg3 x1 = x1 := by
  funext z
  rw [get1, Memref.IsWhole.readAt_unread]
  congr 1
  funext a
  apply Fin.ext
  fin_cases a
  · simp [LoadRect.idx, Rect.unit]
    exact (Nat.lt_one_iff.1 (z 0).isLt).symm
  all_goals simp [LoadRect.idx, Rect.unit]

/-- The table is read whole. -/
theorem get2_eq : get2 arg4 harg4 x2 = x2 := by
  funext z
  rw [get2, Memref.IsWhole.readAt_unread]
  congr 1
  funext a
  apply Fin.ext
  fin_cases a
  · simp [LoadRect.idx, Rect.unit]
    exact (Nat.lt_one_iff.1 (z 0).isLt).symm
  all_goals simp [LoadRect.idx, Rect.unit]

/-- The sums so far are read whole. -/
theorem get4_eq : get4 arg6 harg6 xo4 = xo4 := by
  funext z
  rw [get4, Memref.IsWhole.readAt_unread]
  congr 1
  funext a
  apply Fin.ext
  fin_cases a
  · simp [LoadRect.idx, Rect.unit]
    exact (Nat.lt_one_iff.1 (z 0).isLt).symm
  all_goals simp [LoadRect.idx, Rect.unit]

end

end Cert.Near
-- ==== Proof.Rows.lean ====
module

public import proofs.«01_k».proof.Proof.Model
public import Idealize.ShloMosaic.Lib.Pointwise

@[expose] public section

set_option maxRecDepth 16384

noncomputable section

/-! The model's operations read at one element, over the extended reals. -/

namespace Cert.Near

open Idealize.ShloMosaic Cert.KnnIdeal Cert.KnnIdeal.Gen

theorem top_word : Ideal.ofBits FTy.f32 2139095040#32 = ⊤ := by simp [Ideal.ofBits, Ideal.ieee]

theorem group_at (d : FVec Ideal S512x4096 .f32) (n : ℕ) (hn : n < 32) (r : Fin 512) (l : Fin 128) :
    group d n (slices n hn) (ix2 r l) = d (ix2 r ⟨128 * n + l.val, by omega⟩) := by
  pointwise [group]

theorem lowCol_at (R : Slots Ideal) (r : Fin 512) (z : Fin 1) :
    lowCol R (ix2 r z) = Finset.univ.fold min ⊤ fun l : Fin 128 => R.1 (ix2 r l) := by
  pointwise [lowCol, low]
  rw [top_word]

theorem hit_at (R : Slots Ideal) (r : Fin 512) (l : Fin 128) :
    hit R (ix2 r l) = if R.1 (ix2 r l) ≤ lowCol R (ix2 r 0) then 1#1 else 0#1 := by
  pointwise [hit]
  by_cases h : R.1 (ix2 r l) ≤ lowCol R (ix2 r 0)
  · rw [if_pos h, decide_eq_true h]; rfl
  · rw [if_neg h, decide_eq_false h]; rfl

theorem pop_at (R : Slots Ideal) (r : Fin 512) (l : Fin 128) :
    (pop R).1 (ix2 r l) = if R.1 (ix2 r l) ≤ lowCol R (ix2 r 0) then R.2.1 (ix2 r l) else R.1 (ix2 r l) := by
  show (select (hit R) R.2.1 R.1) (ix2 r l) = _
  pointwise []
  rw [hit_at]
  split <;> simp [Scalar.select]

theorem pop_at2 (R : Slots Ideal) (r : Fin 512) (l : Fin 128) :
    (pop R).2.1 (ix2 r l) = if R.1 (ix2 r l) ≤ lowCol R (ix2 r 0) then R.2.2 (ix2 r l) else R.2.1 (ix2 r l) := by
  show (select (hit R) R.2.2 R.2.1) (ix2 r l) = _
  pointwise []
  rw [hit_at]
  split <;> simp [Scalar.select]

theorem pop_at3 (R : Slots Ideal) (r : Fin 512) (l : Fin 128) :
    (pop R).2.2 (ix2 r l) = if R.1 (ix2 r l) ≤ lowCol R (ix2 r 0) then Ideal.ofBits FTy.f32 0x7F61B1E6#32 else R.2.2 (ix2 r l) := by
  show (select (hit R) big R.2.2) (ix2 r l) = _
  pointwise [big]
  rw [hit_at]
  split <;> simp [Scalar.select]

theorem within_at (d : FVec Ideal S512x4096 .f32) (hl : FVec Ideal S4096x16 .bf16) (w : FVec Ideal S512x1 .f32) (r : Fin 512) (q : Fin 16) :
    within d hl w (ix2 r q) = ∑ j : Fin 4096, (if d (ix2 r j) ≤ w (ix2 r 0) then (1 : EReal) else 0) * hl (ix2 j q) := by
  pointwise [within]
  refine Finset.sum_congr rfl fun x _ => ?_
  congr 1
  by_cases h : d (ix2 r x) ≤ w (ix2 r 0)
  · simp [h, FloatOps.sitofp]
  · simp [h, FloatOps.sitofp]

theorem parts_at (s : FVec Ideal S512x16 .f32) (xr : FVec Ideal S512x3 .f32) (r : Fin 512) (q : Fin 3) :
    parts s xr (ix2 r q) = s (ix2 r ⟨q.val, by omega⟩) + s (ix2 r ⟨3 + q.val, by omega⟩) + s (ix2 r ⟨6 + q.val, by omega⟩) - xr (ix2 r q) := by
  pointwise [parts]

theorem colSum_at (x : FVec Ideal S512x3 .f32) (z : Fin 1) (q : Fin 3) :
    colSum x (ix2 z q) = ∑ r : Fin 512, x (ix2 r q) := by
  pointwise [colSum]

theorem side_at (g : ℕ → FVec Ideal S1x3 .f32) (z : Fin 1) (q : Fin 48) :
    side g (ix2 z q) = g (q.val / 3) (ix2 z ⟨q.val % 3, by omega⟩) := by
  have e : side g = concatenate S1x48 1 (List.ofFn fun n : Fin 16 => (⟨S1x3, g n.val⟩ : (s : Shape) × (s.Idx → EReal)))
      concatenates_S1x3_S1x3_S1x3_S1x3_S1x3_S1x3_S1x3_S1x3_S1x3_S1x3_S1x3_S1x3_S1x3_S1x3_S1x3_S1x3_S1x48_d1 := rfl
  rw [e]
  refine concatenate_ofFn_apply (t := S1x48) (s₁ := S1x3) 1 (fun n : Fin 16 => g n.val) _ rfl 3 rfl (ix2 z q : S1x48.Idx) ⟨q.val / 3, by omega⟩ rfl (ix2 z ⟨q.val % 3, by omega⟩) rfl ?_
  intro b hb
  fin_cases b
  · rfl
  · exact absurd rfl hb

theorem dist_at (v0 : Vec Ideal S1x3x4096 .f32) (v2 : Vec Ideal S1x512x3 .f32) (r : Fin 512) (j : Fin 4096) :
    k0_pay9 v0 v2 (ix2 r j) = (v2 (ix3 0 r 0) - v0 (ix3 0 0 j)) * (v2 (ix3 0 r 0) - v0 (ix3 0 0 j)) + (v2 (ix3 0 r 1) - v0 (ix3 0 1 j)) * (v2 (ix3 0 r 1) - v0 (ix3 0 1 j)) + (v2 (ix3 0 r 2) - v0 (ix3 0 2 j)) * (v2 (ix3 0 r 2) - v0 (ix3 0 2 j)) := by
  pointwise [k0_pay9, k0_pay7]

end Cert.Near
-- ==== Proof.Block.lean ====
module

public import proofs.«01_k».proof.Proof.Pieces
public import proofs.«01_k».proof.Proof.Rows

@[expose] public section

set_option maxRecDepth 16384

noncomputable section

/-! What one block's output buffers hold, entry by entry. -/

namespace Cert.Near

open Idealize.ShloMosaic Cert.KnnIdeal Cert.KnnIdeal.Gen

/-- The offsets of a block, laid out by rows. -/
def offs (v0 : Vec Ideal S1x3x4096 .f32) (v2 : Vec Ideal S1x512x3 .f32) (v4 : Vec Ideal S1x4096x16 .bf16) (k : ℕ) :
    FVec Ideal S512x3 .f32 := off (k0_pay7 v2) (k0_pay8 v4) (k0_pay9 v0 v2) k

/-- The same at an index of the output block. -/
def offAt (v0 : Vec Ideal S1x3x4096 .f32) (v2 : Vec Ideal S1x512x3 .f32) (v4 : Vec Ideal S1x4096x16 .bf16)
    (i : S1x512x48.Idx) : EReal :=
  offs v0 v2 v4 ((i 2).val / 3) (ix2 (i 1) ⟨(i 2).val % 3, Nat.mod_lt _ (by decide)⟩)

/-- One store agrees with the offsets at its place. -/
theorem piece_agrees (v0 : Vec Ideal S1x3x4096 .f32) (v2 : Vec Ideal S1x512x3 .f32) (v4 : Vec Ideal S1x4096x16 .bf16)
    (k : ℕ) (h : k < 16) (x : (piece v0 v2 v4 k h).1.shape.Idx) :
    (piece v0 v2 v4 k h).2 x = offAt v0 v2 v4 ((piece v0 v2 v4 k h).1.emb x) := by
  have e1 : (piece v0 v2 v4 k h).2 x = offs v0 v2 v4 k (ix2 (x 1) (x 2)) := by
    change shapeCast S1x512x3 (offs v0 v2 v4 k) shapeCasts_S512x3_S1x512x3 x = _
    generalize offs v0 v2 v4 k = g
    change S1x512x3.Idx at x
    pointwise []
  have h2 : (((piece v0 v2 v4 k h).1.emb x) 2).val = 3 * k + (x 2).val := by
    show 3 * k + 1 * (x 2).val = _
    omega
  have h1 : ((piece v0 v2 v4 k h).1.emb x) 1 = x 1 := by
    apply Fin.ext
    show 0 + 1 * (x 1).val = _
    omega
  have hx : (x 2).val < 3 := (x 2).isLt
  have hd : (((piece v0 v2 v4 k h).1.emb x) 2).val / 3 = k := by rw [h2]; omega
  have hm : (⟨(((piece v0 v2 v4 k h).1.emb x) 2).val % 3, Nat.mod_lt _ (by decide)⟩ : Fin 3) = x 2 := by
    apply Fin.ext
    show (((piece v0 v2 v4 k h).1.emb x) 2).val % 3 = (x 2).val
    rw [h2]
    omega
  rw [e1, offAt, hd, hm, h1]

/-- Reading back the sixteen stores gives the offsets. -/
theorem read_pieces (v0 : Vec Ideal S1x3x4096 .f32) (v2 : Vec Ideal S1x512x3 .f32) (v4 : Vec Ideal S1x4096x16 .bf16)
    (p) (hp : p ∈ pieces v0 v2 v4) (x) : p.2 x = offAt v0 v2 v4 (p.1.emb x) := by
  simp only [pieces, List.mem_cons, List.mem_nil_iff, or_false] at hp
  rcases hp with rfl | rfl | rfl | rfl | rfl | rfl | rfl | rfl | rfl | rfl | rfl | rfl | rfl | rfl | rfl | rfl <;>
    exact piece_agrees v0 v2 v4 _ _ x

section
variable (c : Dev nD) (i : grid0.Coords) (arg2 : Memref sig .tc .vmem S1x3x4096 .f32) (harg2 : arg2.IsWhole) (arg3 : Memref sig .tc .vmem S1x512x3 .f32) (harg3 : arg3.IsWhole) (arg4 : Memref sig .tc .vmem S1x4096x16 .bf16) (harg4 : arg4.IsWhole) (arg5 : Memref sig .tc .vmem S1x512x48 .f32) (harg5 : arg5.IsWhole) (arg6 : Memref sig .tc .vmem S1x8x48 .f32) (harg6 : arg6.IsWhole)
    (x0 : Vec Ideal S1x3x4096 .f32) (x1 : Vec Ideal S1x512x3 .f32) (x2 : Vec Ideal S1x4096x16 .bf16)

/-- The offsets a cloud's first block leaves. -/
theorem out3A (hc0 : cond0_0 i) (hc1 : ¬cond0_1 i) :
    out0_A_3 c i arg2 harg2 arg3 harg3 arg4 harg4 arg5 harg5 arg6 harg6 hc0 hc1 x0 x1 x2 = offAt x0 x1 x2 := by
  funext y
  refine View.read_writes_apply_of_pieces _ _ _ _ (fun p hp x => ?_) y
    (cover0_A_3 c i arg2 harg2 arg3 harg3 arg4 harg4 arg5 harg5 arg6 harg6 hc0 hc1 x0 x1 x2 y)
  rw [piecesA, get0_eq, get1_eq, get2_eq] at hp
  exact read_pieces x0 x1 x2 p hp x

/-- The sums of a block. -/
def sumsOf (x0 : Vec Ideal S1x3x4096 .f32) (x1 : Vec Ideal S1x512x3 .f32) (x2 : Vec Ideal S1x4096x16 .bf16) : FVec Ideal S8x48 .f32 :=
  sums (k0_pay7 x1) (k0_pay8 x2) (k0_pay9 x0 x1)

/-- Reading back one store of the whole block gives what was stored. -/
theorem read_whole (v : View sig .tc .vmem S1x8x48 .f32) (f) (w : Vec Ideal S1x8x48 .f32) (y : S1x8x48.Idx) :
    v.read (Elt Ideal) (v.writes (Elt Ideal) f [⟨Rect.unit ![0, 0, 0] S1x8x48.size inb_S1x8x48_S1x8x48_0_0_0, w⟩]) y = w y := by
  have he : ∀ x : S1x8x48.Idx, (Rect.unit ![0, 0, 0] S1x8x48.size inb_S1x8x48_S1x8x48_0_0_0).emb x = x := by
    intro x
    funext a
    apply Fin.ext
    fin_cases a
    · show 0 + 1 * (x 0).val = (x 0).val
      omega
    · show 0 + 1 * (x 1).val = (x 1).val
      omega
    · show 0 + 1 * (x 2).val = (x 2).val
      omega
  refine View.read_writes_apply_of_pieces v f w _ (fun p hp x => ?_) y ⟨_, List.mem_singleton_self _, ?_⟩
  · rw [List.mem_singleton] at hp
    subst hp
    exact congrArg w (he x).symm
  · have := LoadRect.idx_mem (Rect.unit ![0, 0, 0] S1x8x48.size inb_S1x8x48_S1x8x48_0_0_0).toLoadRect y
    exact (he y) ▸ this

/-- The sums a cloud's first block leaves. -/
theorem out4A (hc0 : cond0_0 i) (hc1 : ¬cond0_1 i) (s : Fin 8) (l : Fin 48) :
    out0_A_4 c i arg2 harg2 arg3 harg3 arg4 harg4 arg5 harg5 arg6 harg6 hc0 hc1 x0 x1 x2 (ix3 0 s l) = sumsOf x0 x1 x2 (ix2 s l) := by
  unfold out0_A_4
  rw [pieceA, get0_eq, get1_eq, get2_eq]
  refine (read_whole _ _ _ _).trans ?_
  change k0_pay5 (sumsOf x0 x1 x2) (ix3 0 s l) = _
  generalize sumsOf x0 x1 x2 = g
  pointwise [k0_pay5]

variable (xo4 : Vec Ideal S1x8x48 .f32)

/-- The offsets a cloud's later block leaves. -/
theorem out3B (hc0 : ¬cond0_0 i) (hc1 : cond0_1 i) :
    out0_B_3 c i arg2 harg2 arg3 harg3 arg4 harg4 arg5 harg5 arg6 harg6 hc0 hc1 x0 x1 x2 xo4 = offAt x0 x1 x2 := by
  funext y
  refine View.read_writes_apply_of_pieces _ _ _ _ (fun p hp x => ?_) y
    (cover0_B_3 c i arg2 harg2 arg3 harg3 arg4 harg4 arg5 harg5 arg6 harg6 hc0 hc1 x0 x1 x2 xo4 y)
  rw [piecesB, get0_eq, get1_eq, get2_eq] at hp
  exact read_pieces x0 x1 x2 p hp x

/-- The sums a cloud's later block leaves: those so far and its own. -/
theorem out4B (hc0 : ¬cond0_0 i) (hc1 : cond0_1 i) (s : Fin 8) (l : Fin 48) :
    out0_B_4 c i arg2 harg2 arg3 harg3 arg4 harg4 arg5 harg5 arg6 harg6 hc0 hc1 x0 x1 x2 xo4 (ix3 0 s l)
      = xo4 (ix3 0 s l) + sumsOf x0 x1 x2 (ix2 s l) := by
  unfold out0_B_4
  rw [pieceB, get0_eq, get1_eq, get2_eq, get4_eq]
  refine (read_whole _ _ _ _).trans ?_
  change k0_pay6 (sumsOf x0 x1 x2) xo4 (ix3 0 s l) = _
  generalize sumsOf x0 x1 x2 = g
  pointwise [k0_pay6]

end

end Cert.Near
-- ==== Proof.Inputs.lean ====
module

public import proofs.«01_k».proof.Proof.Block
public import Idealize.ShloMosaic.Lib.Claim
public import Idealize.ShloMosaic.Lib.Pipeline.ValueKit

@[expose] public section

set_option maxRecDepth 16384

noncomputable section

/-! The blocks the kernel reads, entry by entry, in terms of the points. -/

namespace Cert.Near

open Idealize.ShloMosaic Cert.KnnIdeal Cert.KnnIdeal.Gen

variable (m : (ℓ : Loc nD τ sig) → Buf (Elt Ideal) ℓ) (c : Dev nD)

/-- The points as the kernel finds them. -/
abbrev pts : FVec Ideal S4x4096x3 .f32 := m ((c.tc : Thread nD τ).loc main_arg0)

/-- Where each window's block lies at each grid point. -/
theorem place : ∀ t : Fin cfg0.N, win0_0.index t = ![t.val / 8, 0, 0] ∧ win0_1.index t = ![t.val / 8, t.val % 8, 0]
    ∧ win0_2.index t = ![t.val / 8, 0, 0] ∧ win0_3.index t = ![t.val / 8, t.val % 8, 0] ∧ win0_4.index t = ![t.val / 8, 0, 0] :=
  (by decide +kernel : ∀ t : Fin grid0.N, win0_0.index t = ![t.val / 8, 0, 0] ∧ win0_1.index t = ![t.val / 8, t.val % 8, 0]
    ∧ win0_2.index t = ![t.val / 8, 0, 0] ∧ win0_3.index t = ![t.val / 8, t.val % 8, 0] ∧ win0_4.index t = ![t.val / 8, 0, 0])

/-- There are thirty-two grid points. -/
theorem lt32 (t : Fin cfg0.N) : t.val < 32 := lt_of_lt_of_eq t.isLt (show cfg0.N = 32 from N_0)

/-- The transposed points' block. -/
theorem in0 (t : Fin cfg0.N) (k : Fin 3) (j : Fin 4096) :
    iblk m c 0 t (ix3 0 k j) = pts m c (ix3 ⟨t.val / 8, by have := lt32 t; omega⟩ j k) := by
  obtain ⟨e0, e1, e2, e3, e4⟩ := place t
  blk_ext! [iblk, V, e0, pts]

/-- The centres' block. -/
theorem in1 (t : Fin cfg0.N) (r : Fin 512) (k : Fin 3) :
    iblk m c 1 t (ix3 0 r k) = pts m c (ix3 ⟨t.val / 8, by have := lt32 t; omega⟩ ⟨t.val % 8 * 512 + r.val, by omega⟩ k) := by
  obtain ⟨e0, e1, e2, e3, e4⟩ := place t
  blk_ext! [iblk, V, e1, pts]

/-- The table's block as the array it is cut from. -/
theorem in2 (t : Fin cfg0.N) (j : Fin 4096) (k : Fin 16) :
    iblk m c 2 t (ix3 0 j k) = V m c main_v9 (ix3 ⟨t.val / 8, by have := lt32 t; omega⟩ j k) := by
  obtain ⟨e0, e1, e2, e3, e4⟩ := place t
  blk_ext! [iblk, e2]

/-- The table of the points' three parts, as the host lays it out. -/
def table {F : FTy → Type} [FloatOps F] (x : FVec F S4x4096x3 .f32) : FVec F S4x4096x16 .bf16 :=
  concatenate S4x4096x16 2 [⟨S4x4096x3, truncf .bf16 x bitsLt_bf16_f32⟩,
    ⟨S4x4096x3, truncf .bf16 (subf x (extf .f32 (truncf .bf16 x bitsLt_bf16_f32 : FVec F S4x4096x3 .bf16) bitsLt_bf16_f32)) bitsLt_bf16_f32⟩,
    ⟨S4x4096x3, truncf .bf16 (subf (subf x (extf .f32 (truncf .bf16 x bitsLt_bf16_f32 : FVec F S4x4096x3 .bf16) bitsLt_bf16_f32))
      (extf .f32 (truncf .bf16 (subf x (extf .f32 (truncf .bf16 x bitsLt_bf16_f32 : FVec F S4x4096x3 .bf16) bitsLt_bf16_f32)) bitsLt_bf16_f32 : FVec F S4x4096x3 .bf16) bitsLt_bf16_f32)) bitsLt_bf16_f32⟩,
    ⟨S4x4096x7, broadcastInDim S4x4096x7 ![] bcast_S_S4x4096x7 (constant S_ .bf16 0x0000#16)⟩] concatenates_S4x4096x3_S4x4096x3_S4x4096x3_S4x4096x7_S4x4096x16_d2

/-- The kernel finds that table. -/
theorem tab_eq : V m c main_v9 = table (pts m c) := by
  simp only [V, hostOps0]
  after_results_simp
  rfl

/-- The table's column `3 p + q` is column `q` of part `p`. -/
theorem cat_at (f : Fin 3 → FVec Ideal S4x4096x3 .bf16) (z : FVec Ideal S4x4096x7 .bf16) (b : Fin 4) (j : Fin 4096) (p q : Fin 3) :
    concatenate S4x4096x16 2 [⟨S4x4096x3, f 0⟩, ⟨S4x4096x3, f 1⟩, ⟨S4x4096x3, f 2⟩, ⟨S4x4096x7, z⟩]
      concatenates_S4x4096x3_S4x4096x3_S4x4096x3_S4x4096x7_S4x4096x16_d2 (ix3 b j ⟨3 * p.val + q.val, by omega⟩) = f p (ix3 b j q) := by
  fin_cases p
  · refine concatenate_apply_piece (t := S4x4096x16) 2 _ _ _ 0 (by simp) S4x4096x3 (f 0) rfl rfl 0 rfl (ix3 b j q) ?_ ?_
    · intro a ha
      fin_cases a
      · rfl
      · rfl
      · exact absurd rfl ha
    · show 0 + q.val = 3 * 0 + q.val
      omega
  · refine concatenate_apply_piece (t := S4x4096x16) 2 _ _ _ 1 (by simp) S4x4096x3 (f 1) rfl rfl 3 rfl (ix3 b j q) ?_ ?_
    · intro a ha
      fin_cases a
      · rfl
      · rfl
      · exact absurd rfl ha
    · show 3 + q.val = 3 * 1 + q.val
      omega
  · refine concatenate_apply_piece (t := S4x4096x16) 2 _ _ _ 2 (by simp) S4x4096x3 (f 2) rfl rfl 6 rfl (ix3 b j q) ?_ ?_
    · intro a ha
      fin_cases a
      · rfl
      · rfl
      · exact absurd rfl ha
    · show 6 + q.val = 3 * 2 + q.val
      omega

/-- The table's three parts over exact numbers: the coordinates, and twice what is left of them. -/
def part (x : FVec Ideal S4x4096x3 .f32) (p : Fin 3) : FVec Ideal S4x4096x3 .bf16 :=
  ![x, subf x x, subf (subf x x) (subf x x)] p

/-- The table by parts. -/
theorem table_at (x : FVec Ideal S4x4096x3 .f32) (b : Fin 4) (j : Fin 4096) (p q : Fin 3) :
    table x (ix3 b j ⟨3 * p.val + q.val, by omega⟩) = part x p (ix3 b j q) :=
  cat_at (part x) _ b j p q

/-- At real points the first part is the coordinates and the others are zero. -/
theorem part_at (x : FVec Ideal S4x4096x3 .f32) (X : S4x4096x3.Idx → ℝ) (hx : ∀ i, x i = ((X i : ℝ) : EReal)) (i : S4x4096x3.Idx) :
    part x 0 i = ((X i : ℝ) : EReal) ∧ part x 1 i = (0 : EReal) ∧ part x 2 i = (0 : EReal) := by
  have h1 : part x 1 i = (0 : EReal) := by
    show (x i - x i : EReal) = 0
    rw [hx, ← EReal.coe_sub, sub_self]
    rfl
  refine ⟨hx i, h1, ?_⟩
  show (part x 1 i - part x 1 i : EReal) = 0
  rw [h1, sub_zero]

end Cert.Near
-- ==== Proof.Ranks.lean ====
module

public import proofs.«01_k».proof.Proof.Gen.KnnRefIdeal.Run
public import Idealize.ShloMosaic.Lib.Pointwise
public import Idealize.ShloMosaic.Lib.SortFacts

@[expose] public section

set_option maxRecDepth 16384

noncomputable section

/-! The reference in a few words: the ordering key of every pair of points, the order it induces, the neighbour
offsets and their sums. -/

namespace Cert.Host

open Idealize.ShloMosaic Cert.KnnRefIdeal Cert.KnnRefIdeal.Gen

variable {F : FTy → Type} [FloatOps F]

/-- The key of every pair of points: minus the distance. -/
def key (x : FVec F S4x4096x3 .f32) : FVec F S4x4096x4096 .f32 :=
  Host.negf (Host.sqrt (maximumf (broadcastInDim S4x4096x4096 ![] bcast_S_S4x4096x4096 (id (constant S_ .f32 0x00000000#32)))
    (subf (addf
      (broadcastInDim S4x4096x4096 ![0, 1, 2] bcast_S4x4096x1_S4x4096x4096_0_1_2
        (broadcastInDim S4x4096x1 ![0, 1] bcast_S4x4096_S4x4096x1_0_1
          (Host.reduceAdd (mulf x x) (constant S_ .f32 0x00000000#32) reducesTo_S4x4096x3_S4x4096_d2 h_S_)))
      (broadcastInDim S4x4096x4096 ![0, 1, 2] bcast_S4x1x4096_S4x4096x4096_0_1_2
        (broadcastInDim S4x1x4096 ![0, 2] bcast_S4x4096_S4x1x4096_0_2
          (Host.reduceAdd (mulf x x) (constant S_ .f32 0x00000000#32) reducesTo_S4x4096x3_S4x4096_d2 h_S_))))
      (mulf (broadcastInDim S4x4096x4096 ![] bcast_S_S4x4096x4096 (constant S_ .f32 0x40000000#32))
        (Host.dotGeneral dot_S4x4096x3_S4x4096x3_S4x4096x4096_2_2_1_1_0_0 none x x)))))

/-- The positions of the sixteen neighbours, as words. -/
def words (k : FVec F S4x4096x4096 .f32) : IVec S4x4096x16 32 :=
  extractStridedSlice S4x4096x16 ![0, 0, 1]
    (Host.topK S4x4096x17 2 (FloatOps.cmpfTotal .gt) k sliceFits_S4x4096x4096_S4x4096x17).2 slices_S4x4096x17_S4x4096x16_0_0_1

/-- The words made non-negative. -/
def wrapped (w : IVec S4x4096x16 32) : IVec S4x4096x16 32 :=
  select (cmpi .slt w (broadcastInDim S4x4096x16 ![] bcast_S_S4x4096x16 (constantI S_ 32 0#32)))
    (addi w (broadcastInDim S4x4096x16 ![] bcast_S_S4x4096x16 (constantI S_ 32 4096#32))) w

/-- The neighbours' offsets. -/
def rel (x : FVec F S4x4096x3 .f32) : FVec F S4x4096x16x3 .f32 :=
  subf (Host.gather gather_S4x4096x3_S4x4096x16x1_S4x4096x16x3_3_1_0_0_1_3_113 x
      (broadcastInDim S4x4096x16x1 ![0, 1, 2] bcast_S4x4096x16_S4x4096x16x1_0_1_2 (wrapped (words (key x)))))
    (broadcastInDim S4x4096x16x3 ![0, 1, 2, 3] bcast_S4x4096x1x3_S4x4096x16x3_0_1_2_3
      (broadcastInDim S4x4096x1x3 ![0, 1, 3] bcast_S4x4096x3_S4x4096x1x3_0_1_3 x))

/-- One row of sums over a cloud's points. -/
def sumRow (r : FVec F S4x4096x16x3 .f32) : FVec F S4x1x48 .f32 :=
  shapeCast S4x1x48 (Host.reduceAdd r (constant S_ .f32 0x00000000#32) reducesTo_S4x4096x16x3_S4x16x3_d1 h_S_) shapeCasts_S4x16x3_S4x1x48

/-- The sums of the offsets, the sums of their squares, and six rows of zeros. -/
def moments (r : FVec F S4x4096x16x3 .f32) : FVec F S4x8x48 .f32 :=
  concatenate S4x8x48 1 [⟨S4x1x48, sumRow r⟩, ⟨S4x1x48, sumRow (mulf r r)⟩,
    ⟨S4x6x48, broadcastInDim S4x6x48 ![] bcast_S_S4x6x48 (constant S_ .f32 0x00000000#32)⟩] concatenates_S4x1x48_S4x1x48_S4x6x48_S4x8x48_d1

/-- The reference's first result is the offsets, laid out by rows. -/
theorem res0 (m : (ℓ : Loc nD τ sig) → Buf (Elt F) ℓ) (c : Dev nD) :
    Value.res_main_v32 m c = shapeCast S4x4096x48 (rel (m ((c.tc : Thread nD τ).loc main_arg0))) shapeCasts_S4x4096x16x3_S4x4096x48 := rfl

/-- The reference's second result is the moments of the offsets. -/
theorem res1 (m : (ℓ : Loc nD τ sig) → Buf (Elt F) ℓ) (c : Dev nD) :
    Value.res_main_v31 m c = moments (rel (m ((c.tc : Thread nD τ).loc main_arg0))) := rfl

/-- The order of one row of keys, greatest first. -/
def order (k : FVec Ideal S4x4096x4096 .f32) (b : Fin 4) (n : Fin 4096) : Fin 4096 → Fin 4096 :=
  sortedFrom fun i j => FloatOps.cmpfTotal .gt (k (ix3 b n i)) (k (ix3 b n j)) == 1#1

/-- A word of the sixteen is the position at its rank, the first rank dropped. -/
theorem words_at (k : FVec Ideal S4x4096x4096 .f32) (b : Fin 4) (n : Fin 4096) (p : Fin 16) :
    words k (ix3 b n p) = BitVec.ofNat 32 (order k b n ⟨1 + p.val, by omega⟩).val := by
  pointwise [words, Host.topK, Host.sort2, order]
  have e : ∀ (p : Fin 4096) (i : Fin 4096), (ix3 b n p : S4x4096x4096.Idx).along 2 i = ix3 b n i := by
    intro p i
    funext a
    fin_cases a <;> rfl
  simp only [e]
  rfl

/-- The gather reads the point whose position the word is. -/
theorem gather_at (x : FVec Ideal S4x4096x3 .f32) (w : IVec S4x4096x16 32) (b : Fin 4) (n : Fin 4096) (p : Fin 16) (q : Fin 3) (r : Fin 4096)
   (h : w (ix3 b n p) = BitVec.ofNat 32 r.val) :
    Host.gather gather_S4x4096x3_S4x4096x16x1_S4x4096x16x3_3_1_0_0_1_3_113 x
      (broadcastInDim S4x4096x16x1 ![0, 1, 2] bcast_S4x4096x16_S4x4096x16x1_0_1_2 w) (ix4 b n p q) = x (ix3 b r q) := by
  unfold Host.gather
  congr 1
  have hs : (broadcastInDim S4x4096x16x1 ![0, 1, 2] bcast_S4x4096x16_S4x4096x16x1_0_1_2 w) (ix4 b n p 0) = BitVec.ofNat 32 r.val := by
    pointwise []
    exact h
  have key : ∀ v : IVec S4x4096x16x1 32, v (ix4 b n p 0) = BitVec.ofNat 32 r.val →
      gather_S4x4096x3_S4x4096x16x1_S4x4096x16x3_3_1_0_0_1_3_113.start (ix4 b n p q) v 1 = r.val := by
    intro v hv
    have e : gather_S4x4096x3_S4x4096x16x1_S4x4096x16x3_3_1_0_0_1_3_113.siIdx (ix4 b n p q) ⟨0, by decide⟩ = ix4 b n p 0 := by
      funext a
      fin_cases a <;> rfl
    have e2 : gather_S4x4096x3_S4x4096x16x1_S4x4096x16x3_3_1_0_0_1_3_113.start (ix4 b n p q) v 1
        = min (v (gather_S4x4096x3_S4x4096x16x1_S4x4096x16x3_3_1_0_0_1_3_113.siIdx (ix4 b n p q) ⟨0, by decide⟩)).toInt.toNat (4096 - 1) := by
      unfold GatherDims.start
      rw [dif_pos (by decide)]
      rfl
    have hr := r.isLt
    rw [e2, e, hv, BitVec.toInt_ofNat', Int.bmod_def]
    split <;> omega
  have h1 := key _ hs
  funext a
  apply Fin.ext
  fin_cases a
  · show 0 + b.val + 0 = b.val
    omega
  · exact (congrArg (· + 0 + 0) h1)
  · show 0 + 0 + q.val = q.val
    omega

/-- A position in range is left as it is. -/
theorem wrapped_at (w : IVec S4x4096x16 32) (b : Fin 4) (n : Fin 4096) (p : Fin 16) (r : Fin 4096)
    (h : w (ix3 b n p) = BitVec.ofNat 32 r.val) : wrapped w (ix3 b n p) = BitVec.ofNat 32 r.val := by
  have e : wrapped w (ix3 b n p) = Scalar.select (IntOp.cmpi .slt (w (ix3 b n p)) 0#32) (IntOp.addi (w (ix3 b n p)) 4096#32) (w (ix3 b n p)) := by
    pointwise [wrapped]
  have hr := r.isLt
  have hn : IntOp.cmpi .slt (w (ix3 b n p)) 0#32 = 0#1 := by
    rw [h]
    have : (BitVec.ofNat 32 r.val).slt 0#32 = false := by
      rw [BitVec.slt, BitVec.toInt_ofNat', Int.bmod_def, decide_eq_false_iff_not]
      split <;> simp <;> omega
    show BitVec.ofBool ((BitVec.ofNat 32 r.val).slt 0#32) = 0#1
    rw [this]
    rfl
  rw [e, hn, h]
  rfl

/-- An offset is the neighbour at its rank less the centre. -/
theorem rel_at (x : FVec Ideal S4x4096x3 .f32) (b : Fin 4) (n : Fin 4096) (p : Fin 16) (q : Fin 3):
    rel x (ix4 b n p q) = x (ix3 b (order (key x) b n ⟨1 + p.val, by omega⟩) q) - x (ix3 b n q) := by
  have e : broadcastInDim S4x4096x16x3 ![0, 1, 2, 3] bcast_S4x4096x1x3_S4x4096x16x3_0_1_2_3
      (broadcastInDim S4x4096x1x3 ![0, 1, 3] bcast_S4x4096x3_S4x4096x1x3_0_1_3 x) (ix4 b n p q) = x (ix3 b n q) := by
    pointwise []
  exact congrArg₂ (· - ·) (gather_at x _ b n p q _ (wrapped_at _ b n p _ (words_at (key x) b n p))) e

/-- The squared distance of two points of a cloud. -/
def dist (X : S4x4096x3.Idx → ℝ) (b : Fin 4) (n j : Fin 4096) : ℝ :=
  ∑ c : Fin 3, (X (ix3 b n c) - X (ix3 b j c)) * (X (ix3 b n c) - X (ix3 b j c))

/-- A squared distance is not negative. -/
theorem dist_nonneg (X : S4x4096x3.Idx → ℝ) (b : Fin 4) (n j : Fin 4096) : 0 ≤ dist X b n j :=
  Finset.sum_nonneg fun _ _ => mul_self_nonneg _

/-- At real points the key is minus the root of the squared distance. -/
theorem key_at (x : FVec Ideal S4x4096x3 .f32) (X : S4x4096x3.Idx → ℝ) (hx : ∀ i, x i = ((X i : ℝ) : EReal))
    (b : Fin 4) (n j : Fin 4096) : key x (ix3 b n j) = ((-Real.sqrt (dist X b n j) : ℝ) : EReal) := by
  obtain ⟨z, hz⟩ : ∃ z : EReal, z = Ideal.ofBits .f32 0#32 := ⟨_, rfl⟩
  have e : key x (ix3 b n j) = -Ideal.sqrt (max z
          (∑ c, x (ix3 b n c) * x (ix3 b n c) + ∑ c, x (ix3 b j c) * x (ix3 b j c) -
            Ideal.ofBits .f32 1073741824#32 * ∑ c, x (ix3 b n c) * x (ix3 b j c))) := by
    pointwise [key]
    rw [hz]
    rfl
  have h2 : Ideal.ofBits .f32 1073741824#32 = ((2 : ℝ) : EReal) := by
    simp [Ideal.ofBits, Ideal.ieee]
    rw [← EReal.coe_mul]
    congr 1
    norm_num
  have h0 : Ideal.ofBits .f32 0#32 = ((0 : ℝ) : EReal) := by
    simp [Ideal.ofBits, Ideal.ieee]
  rw [e, hz, h2, h0]
  simp only [hx, Fin.sum_univ_three]
  norm_cast
  have hd : (X (ix3 b n 0) * X (ix3 b n 0) + X (ix3 b n 1) * X (ix3 b n 1) + X (ix3 b n 2) * X (ix3 b n 2)
      + (X (ix3 b j 0) * X (ix3 b j 0) + X (ix3 b j 1) * X (ix3 b j 1) + X (ix3 b j 2) * X (ix3 b j 2))
      - 2 * (X (ix3 b n 0) * X (ix3 b j 0) + X (ix3 b n 1) * X (ix3 b j 1) + X (ix3 b n 2) * X (ix3 b j 2))) = dist X b n j := by
    simp only [dist, Fin.sum_univ_three]
    ring
  rw [hd, max_eq_right (EReal.coe_nonneg.2 (dist_nonneg X b n j)), Ideal.sqrt_coe, if_neg (not_lt.2 (dist_nonneg X b n j))]
  norm_cast

/-- No later rank has a greater key. -/
theorem order_anti (k : FVec Ideal S4x4096x4096 .f32) (b : Fin 4) (n : Fin 4096) {i j : Fin 4096} (h : i < j) :
    k (ix3 b n (order k b n j)) ≤ k (ix3 b n (order k b n i)) := by
  have hgt : ∀ a c : EReal, (FloatOps.cmpfTotal (F := Ideal) (φ := .f32) .gt a c == 1#1) = decide (c < a) := by
    intro a c
    show (BitVec.ofBool (decide (c < a)) == 1#1) = decide (c < a)
    cases decide (c < a) <;> rfl
  have := sortedFrom_noInversion (fun i j => FloatOps.cmpfTotal .gt (k (ix3 b n i)) (k (ix3 b n j)) == 1#1)
    (fun i j => FloatOps.cmpfTotal .gt (k (ix3 b n i)) (k (ix3 b n j)) == 1#1)
    (fun a c h => by rw [hgt, decide_eq_true_iff] at h; rw [hgt, decide_eq_false_iff_not]; exact not_lt.2 h.le)
    (fun _ _ h => h)
    (fun a c e h1 h2 => by
      rw [hgt, decide_eq_false_iff_not, not_lt] at h1 h2 ⊢
      exact h1.trans h2) i j h
  rw [hgt, decide_eq_false_iff_not, not_lt] at this
  exact this

/-- Every point has a rank. -/
theorem order_surj (k : FVec Ideal S4x4096x4096 .f32) (b : Fin 4) (n : Fin 4096) : Function.Surjective (order k b n) :=
  sortedFrom_surjective _

end Cert.Host
-- ==== Proof.Pick.lean ====
module

public import Idealize.ShloMosaic.Lib.Pointwise

@[expose] public section

noncomputable section

/-! Three slots per lane, and the extraction of the smallest values one by one. -/

namespace Cert.Pick

/-- The slots of each lane hold, up to `top`, what the counts say: slot `i` is at most `x` exactly where at least
`i` values of the lane are at most `x`. -/
def Holds (top : EReal) (R1 R2 R3 : Fin 128 → EReal) (c : Fin 128 → EReal → ℕ) : Prop :=
  ∀ l x, x ≤ top → (R1 l ≤ x ↔ 1 ≤ c l x) ∧ (R2 l ≤ x ↔ 2 ≤ c l x) ∧ (R3 l ≤ x ↔ 3 ≤ c l x)

/-- Empty slots hold nothing. -/
theorem holds_empty (top big : EReal) (h : top < big) :
    Holds top (fun _ => big) (fun _ => big) (fun _ => big) (fun _ _ => 0) := by
  intro l x hx
  have : ¬ big ≤ x := not_le.mpr (lt_of_le_of_lt hx h)
  simp [this]

/-- A value put in adds one to the count wherever it is at most `x`. -/
theorem holds_put (top : EReal) (R1 R2 R3 v : Fin 128 → EReal) (c : Fin 128 → EReal → ℕ) (h : Holds top R1 R2 R3 c) :
    Holds top (fun l => min (R1 l) (v l)) (fun l => min (R2 l) (max (R1 l) (v l)))
      (fun l => min (R3 l) (max (R2 l) (max (R1 l) (v l)))) (fun l x => c l x + if v l ≤ x then 1 else 0) := by
  intro l x hx
  obtain ⟨h1, h2, h3⟩ := h l x hx
  by_cases hv : v l ≤ x
  · simp only [min_le_iff, max_le_iff, h1, h2, h3, hv, if_true, or_true, and_true, true_iff]
    refine ⟨?_, ?_, ?_⟩ <;> omega
  · simp only [min_le_iff, max_le_iff, h1, h2, h3, hv, if_false, or_false, and_false, Nat.add_zero]
    exact ⟨trivial, trivial, trivial⟩

/-- The values of `d` nearest first, `σ` naming seventeen of them, no more than three in one lane. -/
structure Sorted (d : Fin 4096 → EReal) (σ : Fin 17 → Fin 4096) : Prop where
  mono : StrictMono fun k => d (σ k)
  near : ∀ j, d j ≤ d (σ 16) → ∃ k, σ k = j
  lane : ∀ l : ℕ, (Finset.univ.filter fun k : Fin 17 => (σ k).val % 128 = l).card ≤ 3

/-- How many of the values from number `k` on lie in the lane `l` and are at most `x`. -/
def cnt (d : Fin 4096 → EReal) (σ : Fin 17 → Fin 4096) (k : ℕ) (l : Fin 128) (x : EReal) : ℕ :=
  (Finset.univ.filter fun k' : Fin 17 => k ≤ k'.val ∧ (σ k').val % 128 = l.val ∧ d (σ k') ≤ x).card

section
variable {d : Fin 4096 → EReal} {σ : Fin 17 → Fin 4096} (hs : Sorted d σ)
include hs

theorem le_iff (a b : Fin 17) : d (σ a) ≤ d (σ b) ↔ a ≤ b := hs.mono.le_iff_le

theorem cnt_pos (k : Fin 17) (l : Fin 128) :
    1 ≤ cnt d σ k.val l (d (σ k)) ↔ (σ k).val % 128 = l.val := by
  unfold cnt
  rw [Nat.one_le_iff_ne_zero, Finset.card_ne_zero]
  constructor
  · rintro ⟨k', hk'⟩
    simp only [Finset.mem_filter, Finset.mem_univ, true_and] at hk'
    obtain ⟨h1, h2, h3⟩ := hk'
    have h4 := (le_iff hs k' k).mp h3
    have : k' = k := le_antisymm h4 (Fin.le_def.mpr h1)
    rw [← this]; exact h2
  · intro h
    exact ⟨k, by simp [h]⟩

theorem cnt_zero (k : Fin 17) (l : Fin 128) (x : EReal) (hx : x < d (σ k)) : cnt d σ k.val l x = 0 := by
  unfold cnt
  rw [Finset.card_eq_zero, Finset.filter_eq_empty_iff]
  rintro k' - ⟨h1, h2, h3⟩
  have := lt_of_le_of_lt h3 hx
  exact absurd this (not_lt.mpr ((le_iff hs k k').mpr (Fin.le_def.mpr h1)))

omit hs in
theorem cnt_other (k : Fin 17) (l : Fin 128) (x : EReal) (hl : (σ k).val % 128 ≠ l.val) :
    cnt d σ (k.val + 1) l x = cnt d σ k.val l x := by
  unfold cnt
  congr 1
  ext k'
  simp only [Finset.mem_filter, Finset.mem_univ, true_and]
  constructor
  · rintro ⟨h1, h2, h3⟩; exact ⟨by omega, h2, h3⟩
  · rintro ⟨h1, h2, h3⟩
    refine ⟨?_, h2, h3⟩
    rcases Nat.lt_or_ge k.val k'.val with h | h
    · exact h
    · have : k' = k := Fin.ext (by omega)
      rw [this] at h2; exact absurd h2 hl

omit hs in
theorem cnt_same (k : Fin 17) (l : Fin 128) (x : EReal) (hl : (σ k).val % 128 = l.val) (hx : d (σ k) ≤ x) :
    cnt d σ k.val l x = cnt d σ (k.val + 1) l x + 1 := by
  unfold cnt
  rw [← Finset.card_insert_of_notMem (a := k) (by simp)]
  congr 1
  ext k'
  simp only [Finset.mem_filter, Finset.mem_univ, true_and, Finset.mem_insert]
  constructor
  · rintro ⟨h1, h2, h3⟩
    rcases Nat.lt_or_ge k.val k'.val with h | h
    · exact Or.inr ⟨h, h2, h3⟩
    · exact Or.inl (Fin.ext (by omega))
  · rintro (h | ⟨h1, h2, h3⟩)
    · rw [h]; exact ⟨le_refl _, hl, hx⟩
    · exact ⟨by omega, h2, h3⟩

omit hs in
theorem cnt_mono (k : ℕ) (l : Fin 128) (x : EReal) : cnt d σ (k + 1) l x ≤ cnt d σ k l x := by
  unfold cnt
  refine Finset.card_le_card fun k' => ?_
  simp only [Finset.mem_filter, Finset.mem_univ, true_and]
  rintro ⟨h1, h2, h3⟩; exact ⟨by omega, h2, h3⟩

theorem cnt_two (k : Fin 17) (l : Fin 128) (x : EReal) (hl : (σ k).val % 128 = l.val) :
    cnt d σ (k.val + 1) l x ≤ 2 := by
  have h3 := hs.lane l.val
  have : cnt d σ (k.val + 1) l x + 1 ≤ (Finset.univ.filter fun k : Fin 17 => (σ k).val % 128 = l.val).card := by
    unfold cnt
    rw [← Finset.card_insert_of_notMem (a := k) (by simp)]
    refine Finset.card_le_card fun k' => ?_
    simp only [Finset.mem_filter, Finset.mem_univ, true_and, Finset.mem_insert]
    rintro (h | ⟨h1, h2, h3⟩)
    · rw [h]; exact hl
    · exact h2
  omega

/-- The smallest first slot is the value number `k`. -/
theorem low_eq (k : Fin 17) (R1 R2 R3 : Fin 128 → EReal) (h : Holds (d (σ 16)) R1 R2 R3 (cnt d σ k.val)) :
    (Finset.univ.fold min ⊤ R1) = d (σ k) := by
  have htop : d (σ k) ≤ d (σ 16) := (le_iff hs k 16).mpr (Fin.le_last k)
  refine le_antisymm ?_ ?_
  · rw [Finset.fold_min_le]
    refine Or.inr ⟨⟨(σ k).val % 128, Nat.mod_lt _ (by norm_num)⟩, Finset.mem_univ _, ?_⟩
    exact (h _ _ htop).1.mpr ((cnt_pos hs k _).mpr rfl)
  · rw [Finset.le_fold_min]
    refine ⟨le_top, fun l _ => ?_⟩
    by_contra hlt
    have hlt := not_le.mp hlt
    have h1 := (h l (R1 l) (le_trans hlt.le htop)).1.mp (le_refl _)
    rw [cnt_zero hs k l _ hlt] at h1
    omega

/-- The slots after the value number `k` has left. -/
theorem holds_pop (big : EReal) (hbig : d (σ 16) < big) (k : Fin 17) (R1 R2 R3 : Fin 128 → EReal)
    (h : Holds (d (σ 16)) R1 R2 R3 (cnt d σ k.val)) :
    Holds (d (σ 16)) (fun l => if R1 l ≤ d (σ k) then R2 l else R1 l) (fun l => if R1 l ≤ d (σ k) then R3 l else R2 l)
      (fun l => if R1 l ≤ d (σ k) then big else R3 l) (cnt d σ (k.val + 1)) := by
  have htop : d (σ k) ≤ d (σ 16) := (le_iff hs k 16).mpr (Fin.le_last k)
  intro l x hx
  have hb : ¬ big ≤ x := not_le.mpr (lt_of_le_of_lt hx hbig)
  obtain ⟨h1, h2, h3⟩ := h l x hx
  by_cases hl : (σ k).val % 128 = l.val
  · have hit : R1 l ≤ d (σ k) := (h l _ htop).1.mpr ((cnt_pos hs k l).mpr hl)
    have h2' := cnt_two hs k l x hl
    simp only [hit, if_true, hb, h2, h3, false_iff]
    rcases lt_or_ge x (d (σ k)) with hlt | hge
    · have e0 := cnt_zero hs k l x hlt
      have e1 := cnt_mono (d := d) (σ := σ) k.val l x
      refine ⟨?_, ?_, ?_⟩ <;> omega
    · have e := cnt_same (d := d) k l x hl hge
      refine ⟨?_, ?_, ?_⟩ <;> omega
  · have hit : ¬ R1 l ≤ d (σ k) := fun hh => hl ((cnt_pos hs k l).mp ((h l _ htop).1.mp hh))
    simp only [hit, if_false, cnt_other (d := d) k l x hl]
    exact ⟨h1, h2, h3⟩

/-- The lane's values put in group by group are counted by the seventeen nearest. -/
theorem count_eq (l : Fin 128) (x : EReal) (hx : x ≤ d (σ 16)) :
    (Finset.univ.filter fun t : Fin 32 => d ⟨128 * t.val + l.val, by omega⟩ ≤ x).card = cnt d σ 0 l x := by
  unfold cnt
  symm
  refine Finset.card_bij (fun k' _ => (⟨(σ k').val / 128, by omega⟩ : Fin 32)) ?_ ?_ ?_
  · intro k' hk'
    simp only [Finset.mem_filter, Finset.mem_univ, true_and] at hk' ⊢
    obtain ⟨-, h2, h3⟩ := hk'
    have : (⟨128 * ((σ k').val / 128) + l.val, by omega⟩ : Fin 4096) = σ k' := Fin.ext (by simp only []; omega)
    rw [this]; exact h3
  · intro a ha b hb hab
    simp only [Finset.mem_filter, Finset.mem_univ, true_and] at ha hb
    have hab := Fin.mk.inj_iff.mp hab
    have : σ a = σ b := Fin.ext (by omega)
    exact hs.mono.injective (by simp only [this])
  · intro t ht
    simp only [Finset.mem_filter, Finset.mem_univ, true_and] at ht
    obtain ⟨k, hk⟩ := hs.near _ (le_trans ht hx)
    refine ⟨k, ?_, ?_⟩
    · simp only [Finset.mem_filter, Finset.mem_univ, true_and]
      rw [hk]
      exact ⟨Nat.zero_le _, by simp only []; omega, ht⟩
    · have := congrArg Fin.val hk
      simp only [] at this
      exact Fin.ext (by simp only []; omega)

end

end Cert.Pick
-- ==== Proof.Mask.lean ====
module

public import proofs.«01_k».proof.Proof.Ranks
public import proofs.«01_k».proof.Proof.Pick
public import proofs.«01_k».proof.Proof.Gen.On_separated
public import Idealize.ShloMosaic.Lib.ReduceAll
public import Idealize.ShloMosaic.Lib.IndicatorCount

@[expose] public section

set_option maxRecDepth 16384

noncomputable section

/-! What the mask says of one point: its eighteen nearest are strictly ordered and no lane holds more than three
of the seventeen nearest. -/

namespace Cert.Host

open Idealize.ShloMosaic Cert.On_separated Cert.On_separated.Gen

/-- The eighteen greatest keys of every row. -/
def tops (k : FVec Ideal S4x4096x4096 .f32) : FVec Ideal S4x4096x18 .f32 :=
  (Host.topK S4x4096x18 2 (FloatOps.cmpfTotal .gt) k sliceFits_S4x4096x4096_S4x4096x18).1

/-- The lanes of the seventeen nearest. -/
def lanes (k : FVec Ideal S4x4096x4096 .f32) : IVec S4x4096x17 32 :=
  andi (extractStridedSlice S4x4096x17 ![0, 0, 0]
      (Host.topK S4x4096x18 2 (FloatOps.cmpfTotal .gt) k sliceFits_S4x4096x4096_S4x4096x18).2 slices_S4x4096x18_S4x4096x17_0_0_0)
    (broadcastInDim S4x4096x17 ![] bcast_S_S4x4096x17 (constantI S_ 32 127#32))

/-- Which pairs of the seventeen share a lane, as words. -/
def same (w : IVec S4x4096x17 32) : IVec S4x4096x17x17 32 :=
  extui 32 (cmpi .eq
    (broadcastInDim S4x4096x17x17 ![0, 1, 2, 3] bcast_S4x4096x17x1_S4x4096x17x17_0_1_2_3
      (broadcastInDim S4x4096x17x1 ![0, 1, 2] bcast_S4x4096x17_S4x4096x17x1_0_1_2 w))
    (broadcastInDim S4x4096x17x17 ![0, 1, 2, 3] bcast_S4x4096x1x17_S4x4096x17x17_0_1_2_3
      (broadcastInDim S4x4096x1x17 ![0, 1, 3] bcast_S4x4096x17_S4x4096x1x17_0_1_3 w))) natLt_1_32

/-- The mask per point. -/
def good (t : FVec Ideal S4x4096x18 .f32) (w : IVec S4x4096x17 32) : IVec S4x4096 1 :=
  andi
    (Host.reduce IntOp.andi (cmpf .olt (extractStridedSlice S4x4096x17 ![0, 0, 1] t slices_S4x4096x18_S4x4096x17_0_0_1)
      (extractStridedSlice S4x4096x17 ![0, 0, 0] t slices_S4x4096x18_S4x4096x17_0_0_0)) (constantI S_ 1 1#1)
      reducesTo_S4x4096x17_S4x4096_d2 h_S_)
    (Host.reduce IntOp.andi (cmpi .sle
      (Host.reduce IntOp.addi (same w) (constantI S_ 32 0#32) reducesTo_S4x4096x17x17_S4x4096x17_d3 h_S_)
      (broadcastInDim S4x4096x17 ![] bcast_S_S4x4096x17 (constantI S_ 32 3#32))) (constantI S_ 1 1#1)
      reducesTo_S4x4096x17_S4x4096_d2 h_S_)

/-- The first mask is the points' mask. -/
theorem mask0 (x : FVec Ideal S4x4096x3 .f32) :
    (On_separated.fn x).1 = broadcastInDim S4x4096x48 ![0, 1, 2] bcast_S4x4096x1_S4x4096x48_0_1_2
      (broadcastInDim S4x4096x1 ![0, 1] bcast_S4x4096_S4x4096x1_0_1 (good (tops (key x)) (lanes (key x)))) := rfl

/-- One word per cloud: all its points. -/
def all (g : IVec S4x4096 1) : IVec S4 1 :=
  Host.reduce IntOp.andi g (constantI S_ 1 1#1) reducesTo_S4x4096_S4_d1 h_S_

/-- The second mask in the terms of its last operations. -/
theorem part1 (t : FVec Ideal S4x4096x18 .f32) (w : IVec S4x4096x17 32) :
    (On_separated.fn_part1 (F := Ideal) t w (broadcastInDim S4x4096x17x1 ![0, 1, 2] bcast_S4x4096x17_S4x4096x17x1_0_1_2 w)).2
      = broadcastInDim S4x8x48 ![0, 1, 2] bcast_S4x1x1_S4x8x48_0_1_2 (broadcastInDim S4x1x1 ![0] bcast_S4_S4x1x1_0 (all (good t w))) := by
  unfold On_separated.fn_part1 all good same
  dsimp only

/-- The second mask asks all the points of the cloud. -/
theorem mask1 (x : FVec Ideal S4x4096x3 .f32) :
    (On_separated.fn x).2 = broadcastInDim S4x8x48 ![0, 1, 2] bcast_S4x1x1_S4x8x48_0_1_2
      (broadcastInDim S4x1x1 ![0] bcast_S4_S4x1x1_0 (all (good (tops (key x)) (lanes (key x))))) :=
  part1 (tops (key x)) (lanes (key x))

/-- A top key is the key at its rank. -/
theorem tops_at (k : FVec Ideal S4x4096x4096 .f32) (b : Fin 4) (n : Fin 4096) (p : Fin 18) :
    tops k (ix3 b n p) = k (ix3 b n (order k b n ⟨p.val, by omega⟩)) := by
  pointwise [tops, Host.topK, Host.sort2, order]
  have e : ∀ (p : Fin 4096) (i : Fin 4096), (ix3 b n p : S4x4096x4096.Idx).along 2 i = ix3 b n i := by
    intro p i
    funext a
    fin_cases a <;> rfl
  simp only [e]

/-- A lane is the position at its rank modulo the lanes. -/
theorem lanes_at (k : FVec Ideal S4x4096x4096 .f32) (b : Fin 4) (n : Fin 4096) (p : Fin 17) :
    lanes k (ix3 b n p) = BitVec.ofNat 32 ((order k b n ⟨p.val, by omega⟩).val % 128) := by
  pointwise [lanes, Host.topK, Host.sort2, order]
  have e : ∀ (p : Fin 4096) (i : Fin 4096), (ix3 b n p : S4x4096x4096.Idx).along 2 i = ix3 b n i := by
    intro p i
    funext a
    fin_cases a <;> rfl
  simp only [e]
  show BitVec.ofNat 32 (order k b n ⟨p.val, by omega⟩).val &&& 127#32 = _
  apply BitVec.eq_of_toNat_eq
  have := (order k b n ⟨p.val, by omega⟩).isLt
  rw [BitVec.toNat_and, BitVec.toNat_ofNat, BitVec.toNat_ofNat, BitVec.toNat_ofNat]
  rw [show (127 % 2 ^ 32 : ℕ) = 2 ^ 7 - 1 from rfl, Nat.and_two_pow_sub_one_eq_mod]
  show _ = ((order k b n ⟨p.val, by omega⟩).val % 128) % 2 ^ 32
  omega

/-- What the mask says of one point. -/
structure Apart (k : FVec Ideal S4x4096x4096 .f32) (b : Fin 4) (n : Fin 4096) : Prop where
  step : ∀ p : Fin 17, k (ix3 b n (order k b n ⟨1 + p.val, by omega⟩)) < k (ix3 b n (order k b n ⟨p.val, by omega⟩))
  few : ∀ p : Fin 17, (Finset.univ.filter fun q : Fin 17 =>
    (order k b n ⟨p.val, by omega⟩).val % 128 = (order k b n ⟨q.val, by omega⟩).val % 128).card ≤ 3

/-- A point whose mask is set is apart. -/
theorem good_at (k : FVec Ideal S4x4096x4096 .f32) (b : Fin 4) (n : Fin 4096) (h : good (tops k) (lanes k) (ix2 b n) = 1#1) :
    Apart k b n := by
  obtain ⟨h1, h2⟩ := IntOp.andi_eq_one.1 h
  constructor
  · intro p
    have := Host.reduce_andi_eq_one _ _ _ _ _ h1 (ix3 b n p) (by funext a; fin_cases a <;> rfl)
    pointwise at this
    rw [tops_at, tops_at] at this
    by_contra hc
    rw [decide_eq_false hc] at this
    exact absurd this (by decide)
  · intro p
    have := Host.reduce_andi_eq_one _ _ _ _ _ h2 (ix3 b n p) (by funext a; fin_cases a <;> rfl)
    pointwise at this
    rw [show (fun q => same (lanes k) (ix4 b n p q)) = fun q => (IntOp.cmpi .eq (lanes k (ix3 b n p)) (lanes k (ix3 b n q))).setWidth 32 from by
      funext q
      pointwise [same], IndicatorCount.fold_addi_setWidth_eq_card, IntOp.cmpi_sle] at this
    have hs : (Finset.univ.filter fun q : Fin 17 => IntOp.cmpi .eq (lanes k (ix3 b n p)) (lanes k (ix3 b n q)) = 1#1)
        = Finset.univ.filter fun q : Fin 17 =>
          (order k b n ⟨p.val, by omega⟩).val % 128 = (order k b n ⟨q.val, by omega⟩).val % 128 := by
      refine Finset.filter_congr fun q _ => ?_
      rw [IntOp.cmpi_eq, lanes_at, lanes_at]
      constructor
      · intro he
        have := congrArg BitVec.toNat he
        rw [BitVec.toNat_ofNat, BitVec.toNat_ofNat] at this
        omega
      · intro he
        rw [he]
    rw [hs] at this
    have hc := Finset.card_le_univ (Finset.univ.filter fun q : Fin 17 =>
          (order k b n ⟨p.val, by omega⟩).val % 128 = (order k b n ⟨q.val, by omega⟩).val % 128)
    rw [Fintype.card_fin] at hc
    have h3 : (3#32).toInt = 3 := by decide
    rw [h3, BitVec.toInt_ofNat', Int.bmod_def] at this
    split at this <;> omega

/-- Where the first mask is set, its point is apart. -/
theorem apart_of_mask0 (x : FVec Ideal S4x4096x3 .f32) (b : Fin 4) (n : Fin 4096) (l : Fin 48)
    (h : (On_separated.fn x).1 (ix3 b n l) = 1#1) : Apart (key x) b n := by
  rw [mask0] at h
  pointwise at h
  exact good_at _ b n h

/-- Where the second mask is set, every point of its cloud is apart. -/
theorem apart_of_mask1 (x : FVec Ideal S4x4096x3 .f32) (b : Fin 4) (s : Fin 8) (l : Fin 48)
    (h : (On_separated.fn x).2 (ix3 b s l) = 1#1) (n : Fin 4096) : Apart (key x) b n := by
  rw [mask1] at h
  have e : all (good (tops (key x)) (lanes (key x))) (ix1 b) = 1#1 := by
    refine Eq.trans ?_ h
    generalize all (good (tops (key x)) (lanes (key x))) = g
    pointwise []
  exact good_at _ b n (Host.reduce_andi_eq_one _ _ _ _ _ e (ix2 b n) (by funext a; fin_cases a; rfl))

/-- The positions of a point's seventeen nearest. -/
def nearest (x : FVec Ideal S4x4096x3 .f32) (b : Fin 4) (n : Fin 4096) (p : Fin 17) : Fin 4096 :=
  order (key x) b n ⟨p.val, by omega⟩

/-- A smaller key is a greater distance. -/
theorem key_lt (x : FVec Ideal S4x4096x3 .f32) (X : S4x4096x3.Idx → ℝ) (hx : ∀ i, x i = ((X i : ℝ) : EReal))
    (b : Fin 4) (n i j : Fin 4096) (h : key x (ix3 b n i) < key x (ix3 b n j)) : dist X b n j < dist X b n i := by
  rw [key_at x X hx, key_at x X hx, EReal.coe_lt_coe_iff, neg_lt_neg_iff] at h
  exact (Real.sqrt_lt_sqrt_iff (dist_nonneg X b n j)).1 h

/-- At a point that is apart the seventeen nearest are sorted. -/
theorem sorted_of_apart (x : FVec Ideal S4x4096x3 .f32) (X : S4x4096x3.Idx → ℝ) (hx : ∀ i, x i = ((X i : ℝ) : EReal))
    (b : Fin 4) (n : Fin 4096) (h : Apart (key x) b n) :
    Pick.Sorted (fun j => ((dist X b n j : ℝ) : EReal)) (nearest x b n) := by
  constructor
  · refine Fin.strictMono_iff_lt_succ.2 fun i => ?_
    rw [EReal.coe_lt_coe_iff]
    have := key_lt x X hx b n _ _ (h.step i.castSucc)
    refine lt_of_lt_of_eq this (congrArg (dist X b n) (congrArg (order (key x) b n) (Fin.ext ?_)))
    show 1 + i.val = i.val + 1
    omega
  · intro j hj
    obtain ⟨p, rfl⟩ := order_surj (key x) b n j
    by_cases hp : p.val < 17
    · exact ⟨⟨p.val, hp⟩, rfl⟩
    · exfalso
      have h17 := key_lt x X hx b n _ _ (h.step 16)
      rw [EReal.coe_le_coe_iff] at hj
      have hlt : key x (ix3 b n (order (key x) b n p)) < key x (ix3 b n (nearest x b n 16)) := by
        refine lt_of_le_of_lt ?_ (h.step 16)
        rcases (show (17 : ℕ) ≤ p.val by omega).eq_or_lt with he | hlt
        · exact le_of_eq (congrArg (fun p => key x (ix3 b n (order (key x) b n p))) (Fin.ext he.symm))
        · exact order_anti (key x) b n (Fin.lt_def.2 hlt)
      exact absurd (key_lt x X hx b n _ _ hlt) (not_lt.2 hj)
  · intro l
    by_cases he : ∃ p : Fin 17, (nearest x b n p).val % 128 = l
    · obtain ⟨p, rfl⟩ := he
      refine le_trans (Finset.card_le_card fun q hq => ?_) (h.few p)
      rw [Finset.mem_filter] at hq ⊢
      exact ⟨hq.1, hq.2.symm⟩
    · rw [Finset.filter_false_of_mem fun p _ hp => he ⟨p, hp⟩]
      decide

end Cert.Host
-- ==== Proof.Nearest.lean ====
module

public import proofs.«01_k».proof.Proof.Rows
public import proofs.«01_k».proof.Proof.Pick

@[expose] public section

set_option maxRecDepth 16384

noncomputable section

/-! One row of the block: the values extracted are the seventeen nearest distances, and the offsets are those of the
points they belong to. -/

namespace Cert.Near

open Idealize.ShloMosaic Cert.KnnIdeal Cert.KnnIdeal.Gen Cert.Pick

/-- A sum of reals is the same among the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The constant of the empty slots, as a real. -/
def bigR : EReal := Ideal.ofBits FTy.f32 0x7F61B1E6#32

/-- The row `r` of the distances. -/
abbrev row (d : FVec Ideal S512x4096 .f32) (r : Fin 512) : Fin 4096 → EReal := fun j => d (ix2 r j)

section
variable (d : FVec Ideal S512x4096 .f32) (r : Fin 512)

/-- How many of the first `n` values of a lane are at most `x`. -/
def seen (n : ℕ) (l : Fin 128) (x : EReal) : ℕ :=
  ∑ t ∈ Finset.range n, if h : t < 32 then (if d (ix2 r ⟨128 * t + l.val, by omega⟩) ≤ x then 1 else 0) else 0

theorem fill_holds (top : EReal) (ht : top < bigR) (n : ℕ) (hn : n ≤ 32) :
    Holds top (fun l => (fill d n hn).1 (ix2 r l)) (fun l => (fill d n hn).2.1 (ix2 r l))
      (fun l => (fill d n hn).2.2 (ix2 r l)) (seen d r n) := by
  induction n with
  | zero => exact holds_empty top bigR ht
  | succ n ih =>
    have h := holds_put top _ _ _ (fun l => group d n (slices n (by omega)) (ix2 r l)) _ (ih (by omega))
    intro l x hx
    have e : seen d r (n + 1) l x = seen d r n l x + if group d n (slices n (by omega)) (ix2 r l) ≤ x then 1 else 0 := by
      unfold seen
      rw [Finset.sum_range_succ, dif_pos (show n < 32 by omega), group_at d n (by omega)]
    rw [e]
    exact h l x hx

variable {σ : Fin 17 → Fin 4096} (hs : Sorted (row d r) σ) (hb : d (ix2 r (σ 16)) < bigR)
include hs hb

theorem left_holds (k : ℕ) (hk : k ≤ 17) :
    Holds (row d r (σ 16)) (fun l => (left d k).1 (ix2 r l)) (fun l => (left d k).2.1 (ix2 r l))
      (fun l => (left d k).2.2 (ix2 r l)) (cnt (row d r) σ k) := by
  induction k with
  | zero =>
    intro l x hx
    rw [← count_eq hs l x hx]
    have h := fill_holds d r (row d r (σ 16)) hb 32 (le_refl 32) l x hx
    have e : seen d r 32 l x = (Finset.univ.filter fun t : Fin 32 => row d r ⟨128 * t.val + l.val, by omega⟩ ≤ x).card := by
      unfold seen
      rw [Finset.card_filter, Finset.sum_range]
      refine Finset.sum_congr rfl fun t _ => ?_
      rw [dif_pos t.isLt]
    rw [← e]
    exact h
  | succ k ih =>
    have ih := ih (by omega)
    have hl : lowCol (left d k) (ix2 r 0) = row d r (σ ⟨k, by omega⟩) := by
      rw [lowCol_at]
      exact low_eq hs ⟨k, by omega⟩ _ _ _ ih
    have h := holds_pop hs bigR hb ⟨k, by omega⟩ _ _ _ ih
    intro l x hx
    have h := h l x hx
    rw [← hl] at h
    have e1 : (left d (k + 1)).1 (ix2 r l) = if (left d k).1 (ix2 r l) ≤ lowCol (left d k) (ix2 r 0) then (left d k).2.1 (ix2 r l) else (left d k).1 (ix2 r l) := pop_at _ r l
    have e2 : (left d (k + 1)).2.1 (ix2 r l) = if (left d k).1 (ix2 r l) ≤ lowCol (left d k) (ix2 r 0) then (left d k).2.2 (ix2 r l) else (left d k).2.1 (ix2 r l) := pop_at2 _ r l
    have e3 : (left d (k + 1)).2.2 (ix2 r l) = if (left d k).1 (ix2 r l) ≤ lowCol (left d k) (ix2 r 0) then bigR else (left d k).2.2 (ix2 r l) := pop_at3 _ r l
    simp only [e1, e2, e3]
    exact h

/-- The value extracted at number `k` is the distance of the `k`-th nearest point. -/
theorem cut_eq (k : Fin 17) : cut d k.val (ix2 r 0) = d (ix2 r (σ k)) := by
  unfold cut
  rw [lowCol_at]
  exact low_eq hs k _ _ _ (left_holds d r hs hb k.val k.isLt.le)

/-- The masked sum at number `k` adds the table's rows of the `k + 1` nearest points. -/
theorem within_eq (hl : FVec Ideal S4096x16 .bf16) (H : Fin 4096 → ℝ) (q : Fin 16) (hH : ∀ j, hl (ix2 j q) = (H j : EReal)) (k : Fin 17) :
    within d hl (cut d k.val) (ix2 r q) = ((∑ k' ∈ Finset.univ.filter (fun k' : Fin 17 => k' ≤ k), H (σ k') : ℝ) : EReal) := by
  rw [within_at, cut_eq d r hs hb]
  have e : ∀ j, (if d (ix2 r j) ≤ d (ix2 r (σ k)) then (1 : EReal) else 0) * hl (ix2 j q)
      = ((if d (ix2 r j) ≤ d (ix2 r (σ k)) then H j else 0 : ℝ) : EReal) := by
    intro j
    rw [hH]
    split <;> simp
  rw [Finset.sum_congr rfl fun j _ => e j, ← coe_sum', ← Finset.sum_filter]
  congr 1
  have hinj : Function.Injective σ := fun a b hab => hs.mono.injective (by simp only [hab])
  rw [← Finset.sum_image (s := Finset.univ.filter (fun k' : Fin 17 => k' ≤ k)) (g := σ) (f := H) (fun a _ b _ hab => hinj hab)]
  refine Finset.sum_congr ?_ fun _ _ => rfl
  ext j
  simp only [Finset.mem_filter, Finset.mem_univ, true_and, Finset.mem_image]
  constructor
  · intro h
    obtain ⟨k', hk'⟩ := hs.near j (le_trans h ((le_iff hs k 16).mpr (Fin.le_last k)))
    refine ⟨k', ?_, hk'⟩
    rw [← hk'] at h
    exact (le_iff hs k' k).mp h
  · rintro ⟨k', h, hk'⟩
    rw [← hk']
    exact (le_iff hs k' k).mpr h

/-- The difference of two successive masked sums is one row of the table. -/
theorem step_eq (hl : FVec Ideal S4096x16 .bf16) (H : Fin 4096 → ℝ) (q : Fin 16) (hH : ∀ j, hl (ix2 j q) = (H j : EReal)) (k : Fin 16) :
    within d hl (cut d (k.val + 1)) (ix2 r q) - within d hl (cut d k.val) (ix2 r q) = (H (σ k.succ) : EReal) := by
  have h1 := within_eq d r hs hb hl H q hH k.succ
  have h0 := within_eq d r hs hb hl H q hH k.castSucc
  rw [Fin.val_succ] at h1
  rw [Fin.val_castSucc] at h0
  rw [h1, h0, ← EReal.coe_sub]
  congr 1
  have : (Finset.univ.filter fun k' : Fin 17 => k' ≤ k.succ) = insert k.succ (Finset.univ.filter fun k' : Fin 17 => k' ≤ k.castSucc) := by
    ext k'
    simp only [Finset.mem_filter, Finset.mem_univ, true_and, Finset.mem_insert, Fin.le_def, Fin.ext_iff, Fin.val_succ, Fin.val_castSucc]
    omega
  rw [this, Finset.sum_insert (by simp [Fin.le_def])]
  ring

/-- The offset written for neighbour number `k + 1`. -/
theorem off_eq (hl : FVec Ideal S4096x16 .bf16) (xr : FVec Ideal S512x3 .f32) (q : Fin 3) (H : Fin 4096 → ℝ)
    (h0 : ∀ j, hl (ix2 j ⟨q.val, by omega⟩) = (H j : EReal)) (h3 : ∀ j, hl (ix2 j ⟨3 + q.val, by omega⟩) = 0)
    (h6 : ∀ j, hl (ix2 j ⟨6 + q.val, by omega⟩) = 0) (k : Fin 16) :
    off xr hl d k.val (ix2 r q) = (H (σ k.succ) : EReal) - xr (ix2 r q) := by
  unfold off
  rw [parts_at]
  have e0 := step_eq d r hs hb hl H ⟨q.val, by omega⟩ h0 k
  have e3 := step_eq d r hs hb hl (fun _ => 0) ⟨3 + q.val, by omega⟩ (fun j => by rw [h3]; rfl) k
  have e6 := step_eq d r hs hb hl (fun _ => 0) ⟨6 + q.val, by omega⟩ (fun j => by rw [h6]; rfl) k
  rw [show ∀ (a b : FVec Ideal S512x16 .f32) i, subf a b i = a i - b i from fun _ _ _ => rfl,
    show ∀ (a b : FVec Ideal S512x16 .f32) i, subf a b i = a i - b i from fun _ _ _ => rfl,
    show ∀ (a b : FVec Ideal S512x16 .f32) i, subf a b i = a i - b i from fun _ _ _ => rfl, e0, e3, e6]
  simp

end

end Cert.Near
-- ==== Proof.Range.lean ====
module

public import proofs.«01_k».proof.Proof.Nearest
public import proofs.«01_k».proof.Proof.Ranks
public import proofs.«01_k».proof.Proof.Gen.Pre_in_range
public import Idealize.ShloMosaic.Lib.ReduceAll

@[expose] public section

set_option maxRecDepth 16384

noncomputable section

/-! What the precondition gives: real coordinates, and squared distances below the constant that marks an empty slot. -/

namespace Cert.Range

open Idealize.ShloMosaic Cert.Pre_in_range Cert.Pre_in_range.Gen

/-- In range every coordinate is a real number of magnitude below `2 ^ 60`. -/
theorem real_of_range (x : FVec Ideal S4x4096x3 .f32) (h : Pre_in_range.fn x = fun _ => 1#1) :
    ∃ X : S4x4096x3.Idx → ℝ, (∀ i, x i = ((X i : ℝ) : EReal)) ∧ ∀ i, |X i| < 2 ^ 60 := by
  have hb : Ideal.ofBits .f32 0x5D800000#32 = ((2 ^ 60 : ℝ) : EReal) := by
    simp [Ideal.ofBits, Ideal.ieee]
    norm_cast
  have hi : ∀ i, ∃ r : ℝ, x i = (r : EReal) ∧ |r| < 2 ^ 60 := by
    intro i
    have h1 := congrFun h ix0
    dsimp only [Pre_in_range.fn] at h1
    have h2 := Host.reduce_andi_eq_one _ _ _ _ _ h1 i (by funext a; exact a.elim0)
    have h3 : BitVec.ofBool (decide (max (x i) (-(x i)) < Ideal.ofBits .f32 0x5D800000#32)) = 1#1 := h2
    have h4 : max (x i) (-(x i)) < Ideal.ofBits .f32 0x5D800000#32 := by
      by_contra hc
      rw [decide_eq_false hc] at h3
      exact absurd h3 (by decide)
    rw [hb] at h4
    generalize x i = y at h4 ⊢
    change EReal at y
    induction y using EReal.rec with
    | bot => simp at h4
    | top => simp at h4
    | coe r =>
      refine ⟨r, rfl, ?_⟩
      rw [← EReal.coe_neg] at h4
      rw [abs_lt]
      have h5 := lt_of_le_of_lt (le_max_left _ _) h4
      have h6 := lt_of_le_of_lt (le_max_right _ _) h4
      rw [EReal.coe_lt_coe_iff] at h5 h6
      constructor <;> linarith
  choose X hX using hi
  exact ⟨X, fun i => (hX i).1, fun i => (hX i).2⟩

/-- Squared distances lie below the constant that marks an empty slot. -/
theorem dist_lt (X : S4x4096x3.Idx → ℝ) (h : ∀ i, |X i| < 2 ^ 60) (b : Fin 4) (n j : Fin 4096) :
    ((Host.dist X b n j : ℝ) : EReal) < Near.bigR := by
  have hb : Near.bigR = ((14791142 * 2 ^ 104 : ℝ) : EReal) := by
    unfold Near.bigR
    simp [Ideal.ofBits, Ideal.ieee]
  have hd : ∀ c : Fin 3, (X (ix3 b n c) - X (ix3 b j c)) * (X (ix3 b n c) - X (ix3 b j c)) ≤ 2 ^ 61 * 2 ^ 61 := by
    intro c
    have h1 := abs_lt.1 (h (ix3 b n c))
    have h2 := abs_lt.1 (h (ix3 b j c))
    have : |X (ix3 b n c) - X (ix3 b j c)| ≤ 2 ^ 61 := by
      rw [abs_le]
      constructor <;> linarith [h1.1, h1.2, h2.1, h2.2]
    rw [← abs_mul_abs_self]
    exact mul_le_mul this this (abs_nonneg _) (by norm_num)
  have : Host.dist X b n j ≤ 3 * (2 ^ 61 * 2 ^ 61) := by
    unfold Host.dist
    rw [Fin.sum_univ_three]
    linarith [hd 0, hd 1, hd 2]
  rw [hb, EReal.coe_lt_coe_iff]
  refine lt_of_le_of_lt this ?_
  norm_num

end Cert.Range
-- ==== Proof.Value.lean ====
module

public import proofs.«01_k».proof.Proof.Inputs
public import proofs.«01_k».proof.Proof.Mask
public import proofs.«01_k».proof.Proof.Range

@[expose] public section

set_option maxRecDepth 16384

noncomputable section

/-! The offsets one block computes are the reference's. -/

namespace Cert.Near

open Idealize.ShloMosaic Cert.KnnIdeal Cert.KnnIdeal.Gen

variable (m : (ℓ : Loc nD τ sig) → Buf (Elt Ideal) ℓ) (c : Dev nD)

/-- The cloud of a grid point. -/
abbrev cloud (t : Fin cfg0.N) : Fin 4 := ⟨t.val / 8, by have := lt32 t; omega⟩
/-- The point of a grid point's row. -/
abbrev point (t : Fin cfg0.N) (r : Fin 512) : Fin 4096 := ⟨t.val % 8 * 512 + r.val, by omega⟩

/-- A block's distances are the squared distances from the row's point. -/
theorem row_dist (X : S4x4096x3.Idx → ℝ) (hx : ∀ i, pts m c i = ((X i : ℝ) : EReal)) (t : Fin cfg0.N) (r : Fin 512) (j : Fin 4096) :
    k0_pay9 (iblk m c 0 t) (iblk m c 1 t) (ix2 r j) = ((Host.dist X (cloud t) (point t r) j : ℝ) : EReal) := by
  rw [dist_at]
  simp only [in0, in1, hx]
  rw [Host.dist, Fin.sum_univ_three]
  norm_cast

/-- A block's centres. -/
theorem centre_at (t : Fin cfg0.N) (r : Fin 512) (q : Fin 3) :
    k0_pay7 (iblk m c 1 t) (ix2 r q) = pts m c (ix3 (cloud t) (point t r) q) := by
  rw [← in1]
  generalize iblk m c 1 t = x
  pointwise [k0_pay7]

/-- A block's table. -/
theorem table_row (t : Fin cfg0.N) (j : Fin 4096) (p q : Fin 3) :
    k0_pay8 (iblk m c 2 t) (ix2 j ⟨3 * p.val + q.val, by omega⟩) = part (pts m c) p (ix3 (cloud t) j q) := by
  rw [← table_at, ← tab_eq, ← in2]
  generalize iblk m c 2 t = x
  pointwise [k0_pay8]

/-- The offsets of a row whose point is apart are the neighbours' offsets. -/
theorem offs_at (X : S4x4096x3.Idx → ℝ) (hx : ∀ i, pts m c i = ((X i : ℝ) : EReal)) (hX : ∀ i, |X i| < 2 ^ 60)
    (t : Fin cfg0.N) (r : Fin 512) (h : Host.Apart (Host.key (pts m c)) (cloud t) (point t r)) (k : Fin 16) (q : Fin 3) :
    offs (iblk m c 0 t) (iblk m c 1 t) (iblk m c 2 t) k.val (ix2 r q)
      = pts m c (ix3 (cloud t) (Host.nearest (pts m c) (cloud t) (point t r) k.succ) q) - pts m c (ix3 (cloud t) (point t r) q) := by
  have hs := Host.sorted_of_apart (pts m c) X hx (cloud t) (point t r) h
  have hr : row (k0_pay9 (iblk m c 0 t) (iblk m c 1 t)) r = fun j => ((Host.dist X (cloud t) (point t r) j : ℝ) : EReal) :=
    funext fun j => row_dist m c X hx t r j
  rw [← hr] at hs
  have hb : k0_pay9 (iblk m c 0 t) (iblk m c 1 t) (ix2 r (Host.nearest (pts m c) (cloud t) (point t r) 16)) < bigR := by
    rw [row_dist m c X hx]
    exact Range.dist_lt X hX _ _ _
  unfold offs
  rw [off_eq _ r hs hb _ _ q (fun j => X (ix3 (cloud t) j q)) (fun j => ?_) (fun j => ?_) (fun j => ?_) k, hx, centre_at]
  · have := table_row m c t j 0 q
    rw [(part_at _ X hx _).1] at this
    refine Eq.trans (congrArg (fun z => k0_pay8 (iblk m c 2 t) (ix2 j z)) (Fin.ext ?_)) this
    show q.val = 3 * 0 + q.val
    omega
  · have := table_row m c t j 1 q
    rw [(part_at _ X hx _).2.1] at this
    exact this
  · have := table_row m c t j 2 q
    rw [(part_at _ X hx _).2.2] at this
    exact this

end Cert.Near
-- ==== Proof.Arrays.lean ====
module

public import proofs.«01_k».proof.Proof.Value
public import proofs.«01_k».proof.Proof.Gen.KnnIdeal.Value

@[expose] public section

set_option maxRecDepth 16384

noncomputable section

/-! The kernel's two result arrays, entry by entry, from its blocks. -/

namespace Cert.Near

open Idealize.ShloMosaic Cert.KnnIdeal Cert.KnnIdeal.Gen

variable (m : (ℓ : Loc nD τ sig) → Buf (Elt Ideal) ℓ) (c : Dev nD)

/-- After every point the first output's block holds the point's offsets. -/
theorem outs3 (t : Fin cfg0.N) : (outsAt0 m c t.val t.isLt).1 = offAt (iblk m c 0 t) (iblk m c 1 t) (iblk m c 2 t) := by
  by_cases h0 : t.val % 8 = 0
  · rw [outsAt0_A m c t h0 (by omega)]
    dsimp only
    exact out3A c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) (fun h => absurd ((hcond0_1 t).mp h) (by omega))
  · rw [outsAt0_B m c t h0 (by omega)]
    dsimp only
    exact out3B c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (outsAt0 m c (t.val - 1) (Nat.lt_of_le_of_lt (Nat.sub_le _ _) t.isLt)).2 (fun h => h0 ((hcond0_0 t).mp h)) ((hcond0_1 t).mpr (by omega))

/-- The sums of the block at a position, zero past the grid. -/
def blockSum (n : ℕ) (s : Fin 8) (l : Fin 48) : EReal :=
  if h : n < cfg0.N then sumsOf (iblk m c 0 ⟨n, h⟩) (iblk m c 1 ⟨n, h⟩) (iblk m c 2 ⟨n, h⟩) (ix2 s l) else 0

/-- What a cloud's first block leaves in the second output's block. -/
theorem outs4A (s : Fin 8) (l : Fin 48) (t : Fin cfg0.N) (h0 : t.val % 8 = 0) :
    (outsAt0 m c t.val t.isLt).2 (ix3 0 s l) = blockSum m c t.val s l := by
  rw [outsAt0_A m c t h0 (by omega), blockSum, dif_pos t.isLt]
  exact out4A c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) (fun h => absurd ((hcond0_1 t).mp h) (by omega)) s l

/-- What a cloud's later block leaves in the second output's block. -/
theorem outs4B (s : Fin 8) (l : Fin 48) (t : Fin cfg0.N) (h0 : ¬t.val % 8 = 0) :
    (outsAt0 m c t.val t.isLt).2 (ix3 0 s l)
      = (outsAt0 m c (t.val - 1) (Nat.lt_of_le_of_lt (Nat.sub_le _ _) t.isLt)).2 (ix3 0 s l) + blockSum m c t.val s l := by
  rw [outsAt0_B m c t h0 (by omega), blockSum, dif_pos t.isLt]
  exact out4B c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (outsAt0 m c (t.val - 1) (Nat.lt_of_le_of_lt (Nat.sub_le _ _) t.isLt)).2 (fun h => h0 ((hcond0_0 t).mp h)) ((hcond0_1 t).mpr (by omega)) s l

/-- After every point the second output's block holds the sums over the cloud's blocks so far. -/
theorem outs4 (s : Fin 8) (l : Fin 48) : ∀ (n : ℕ) (hn : n < cfg0.N),
    (outsAt0 m c n hn).2 (ix3 0 s l) = ∑ u ∈ Finset.range (n % 8 + 1), blockSum m c (n / 8 * 8 + u) s l := by
  intro n
  induction n with
  | zero =>
    intro hn
    refine (outs4A m c s l ⟨0, hn⟩ (Nat.zero_mod _)).trans ?_
    simp
  | succ n ih =>
    intro hn
    by_cases h0 : (n + 1) % 8 = 0
    · refine (outs4A m c s l ⟨n + 1, hn⟩ h0).trans ?_
      rw [h0, zero_add, Finset.sum_range_one, show (n + 1) / 8 * 8 + 0 = n + 1 by omega]
    · refine (outs4B m c s l ⟨n + 1, hn⟩ h0).trans ?_
      have := ih (Nat.lt_of_succ_lt hn)
      rw [show (n + 1) % 8 + 1 = (n % 8 + 1) + 1 by omega, Finset.sum_range_succ, show (n + 1) / 8 = n / 8 by omega, ← this,
        show n / 8 * 8 + (n % 8 + 1) = n + 1 by omega]
      rfl

/-- Entry `(b, n, l)` of the first result. -/
theorem arr3 (b : Fin 4) (n : Fin 4096) (l : Fin 48) (t : Fin cfg0.N) (ht : t.val = b.val * 8 + n.val / 512) :
    (dats m 0 c).arrAt 3 cfg0.N (ix3 b n l : S4x4096x48.Idx)
      = offs (iblk m c 0 t) (iblk m c 1 t) (iblk m c 2 t) (l.val / 3) (ix2 ⟨n.val % 512, Nat.mod_lt _ (by decide)⟩ ⟨l.val % 3, Nat.mod_lt _ (by decide)⟩) := by
  have hb := Value.blocks3 m c t ((by decide +kernel : ∀ t : Fin cfg0.N, (cfg0.win 3).flush t = true) t)
  obtain ⟨e0, e1, e2, e3, e4⟩ := place t
  have h := congrFun hb (ix3 0 ⟨n.val % 512, Nat.mod_lt _ (by decide)⟩ l : S1x512x48.Idx)
  rw [Value.flushed3, outs3] at h
  have hi : (ix3 b n l : S4x4096x48.Idx) = ((cfg0.win 3).blk t).view.emb (ix3 0 ⟨n.val % 512, Nat.mod_lt _ (by decide)⟩ l : S1x512x48.Idx) := by
    blk_ext [e3]
  rw [hi]
  exact h

/-- Two different flushing points of the second output write different blocks. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => hne
    ((by decide +kernel : ∀ t t' : Fin cfg0.N, (cfg0.win 4).flush t = true → (cfg0.win 4).flush t' = true →
      win0_4.index t = win0_4.index t' → t = t') t t' hf hf' h)

/-- Entry `(b, s, l)` of the second result. -/
theorem arr4 (b : Fin 4) (s : Fin 8) (l : Fin 48) :
    (dats m 0 c).arrAt 4 cfg0.N (ix3 b s l : S4x8x48.Idx) = ∑ u ∈ Finset.range 8, blockSum m c (b.val * 8 + u) s l := by
  have hN : cfg0.N = 32 := N_0
  obtain ⟨t, ht⟩ : ∃ t : Fin cfg0.N, t.val = b.val * 8 + 7 := ⟨⟨b.val * 8 + 7, by omega⟩, rfl⟩
  have hf : (cfg0.win 4).flush t = true :=
    (by decide +kernel : ∀ t : Fin cfg0.N, t.val % 8 = 7 → (cfg0.win 4).flush t = true) t (by omega)
  have hb := (dats m 0 c).read_blk_arrAt_eq_flushed 4 disjoint4 cfg0.N t t.isLt hf
  obtain ⟨e0, e1, e2, e3, e4⟩ := place t
  have h := congrFun hb (ix3 0 s l : S1x8x48.Idx)
  rw [Value.flushed4] at h
  have ho := outs4 m c s l t.val t.isLt
  rw [show t.val % 8 + 1 = 8 by omega, show t.val / 8 = b.val by omega] at ho
  rw [← ho]
  have hi : (ix3 b s l : S4x8x48.Idx) = ((cfg0.win 4).blk t).view.emb (ix3 0 s l : S1x8x48.Idx) := by
    blk_ext [e4]
  rw [hi]
  exact h

end Cert.Near
-- ==== Proof.Agree.lean ====
module

public import proofs.«01_k».proof.Proof.Arrays

@[expose] public section

set_option maxRecDepth 16384

noncomputable section

/-! The reference's results entry by entry, and their equality with the kernel's. -/

namespace Cert.Host

open Idealize.ShloMosaic Cert.KnnRefIdeal Cert.KnnRefIdeal.Gen

/-- What a point contributes to row `s` of the moments: its offset, the offset's square, or nothing. -/
def term (s : Fin 8) (v : EReal) : EReal := if s = 0 then v else if s = 1 then v * v else 0

/-- The word of zero is zero. -/
theorem zero_word : Ideal.ofBits FTy.f32 0#32 = 0 := by simp [Ideal.ofBits, Ideal.ieee]

/-- The offsets laid out by rows. -/
theorem rows_at (r : FVec Ideal S4x4096x16x3 .f32) (b : Fin 4) (n : Fin 4096) (l : Fin 48) :
    shapeCast S4x4096x48 r shapeCasts_S4x4096x16x3_S4x4096x48 (ix3 b n l)
      = r (ix4 b n ⟨l.val / 3, by omega⟩ ⟨l.val % 3, by omega⟩) := by
  pointwise []

/-- A row of sums adds over a cloud's points. -/
theorem sumRow_at (r : FVec Ideal S4x4096x16x3 .f32) (b : Fin 4) (z : Fin 1) (l : Fin 48) :
    sumRow r (ix3 b z l) = ∑ n : Fin 4096, r (ix4 b n ⟨l.val / 3, by omega⟩ ⟨l.val % 3, by omega⟩) := by
  pointwise [sumRow]

/-- The moments, entry by entry. -/
theorem moments_at (r : FVec Ideal S4x4096x16x3 .f32) (b : Fin 4) (s : Fin 8) (l : Fin 48) :
    moments r (ix3 b s l) = ∑ n : Fin 4096, term s (r (ix4 b n ⟨l.val / 3, by omega⟩ ⟨l.val % 3, by omega⟩)) := by
  unfold moments
  obtain h | h | h : s = 0 ∨ s = 1 ∨ 2 ≤ s.val := by omega
  · subst h
    refine (concatenate_apply_piece (t := S4x8x48) 1 _ _ _ 0 (by simp) S4x1x48 (sumRow r) rfl rfl 0 rfl (ix3 b 0 l) ?_ ?_).trans ?_
    · intro a ha
      fin_cases a
      · rfl
      · exact absurd rfl ha
      · rfl
    · rfl
    · rw [sumRow_at]
      rfl
  · subst h
    refine (concatenate_apply_piece (t := S4x8x48) 1 _ _ _ 1 (by simp) S4x1x48 (sumRow (mulf r r)) rfl rfl 1 rfl (ix3 b 0 l) ?_ ?_).trans ?_
    · intro a ha
      fin_cases a
      · rfl
      · exact absurd rfl ha
      · rfl
    · rfl
    · rw [sumRow_at]
      rfl
  · refine (concatenate_apply_piece (t := S4x8x48) 1 _ _ _ 2 (by simp) S4x6x48
      (broadcastInDim S4x6x48 ![] bcast_S_S4x6x48 (constant S_ .f32 0x00000000#32)) rfl rfl 2 rfl (ix3 b ⟨s.val - 2, by omega⟩ l) ?_ ?_).trans ?_
    · intro a ha
      fin_cases a
      · rfl
      · exact absurd rfl ha
      · rfl
    · show 2 + (s.val - 2) = s.val
      omega
    · have h0 : s ≠ 0 := by rintro rfl; exact absurd h (by decide)
      have h1 : s ≠ 1 := by rintro rfl; exact absurd h (by decide)
      simp only [term, if_neg h0, if_neg h1, Finset.sum_const_zero]
      pointwise []

end Cert.Host

namespace Cert.Near

open Idealize.ShloMosaic Cert.KnnIdeal Cert.KnnIdeal.Gen

/-- A block's sums, entry by entry. -/
theorem sumsOf_at (x0 : Vec Ideal S1x3x4096 .f32) (x1 : Vec Ideal S1x512x3 .f32) (x2 : Vec Ideal S1x4096x16 .bf16) (s : Fin 8) (l : Fin 48) :
    sumsOf x0 x1 x2 (ix2 s l) = ∑ r : Fin 512, Host.term s (offs x0 x1 x2 (l.val / 3) (ix2 r ⟨l.val % 3, by omega⟩)) := by
  unfold sumsOf sums
  obtain h | h | h : s = 0 ∨ s = 1 ∨ 2 ≤ s.val := by omega
  · subst h
    refine (concatenate_apply_piece (t := S8x48) 0 _ _ _ 0 (by simp) S1x48 _ rfl rfl 0 rfl (ix2 0 l) ?_ ?_).trans ?_
    · intro a ha
      fin_cases a
      · exact absurd rfl ha
      · rfl
    · rfl
    · rw [side_at, colSum_at]
      rfl
  · subst h
    refine (concatenate_apply_piece (t := S8x48) 0 _ _ _ 1 (by simp) S1x48 _ rfl rfl 1 rfl (ix2 0 l) ?_ ?_).trans ?_
    · intro a ha
      fin_cases a
      · exact absurd rfl ha
      · rfl
    · rfl
    · rw [side_at, colSum_at]
      rfl
  · refine (concatenate_apply_piece (t := S8x48) 0 _ _ _ 2 (by simp) S6x48 _ rfl rfl 2 rfl (ix2 ⟨s.val - 2, by omega⟩ l) ?_ ?_).trans ?_
    · intro a ha
      fin_cases a
      · exact absurd rfl ha
      · rfl
    · show 2 + (s.val - 2) = s.val
      omega
    · have h0 : s ≠ 0 := by rintro rfl; exact absurd h (by decide)
      have h1 : s ≠ 1 := by rintro rfl; exact absurd h (by decide)
      simp only [Host.term, if_neg h0, if_neg h1, Finset.sum_const_zero]
      exact Host.zero_word

/-- A sum over a cloud's points, block by block. -/
theorem sum_blocks (f : Fin 4096 → EReal) :
    ∑ u : Fin 8, ∑ r : Fin 512, f ⟨u.val * 512 + r.val, by omega⟩ = ∑ n : Fin 4096, f n := by
  rw [← Fintype.sum_prod_type', ← Equiv.sum_comp (finProdFinEquiv : Fin 8 × Fin 512 ≃ Fin (8 * 512)) f]
  refine Finset.sum_congr rfl fun p _ => congrArg f (Fin.ext ?_)
  show p.1.val * 512 + p.2.val = p.2.val + 512 * p.1.val
  omega

variable (m : (ℓ : Loc nD τ sig) → Buf (Elt Ideal) ℓ) (c : Dev nD)

/-- A grid point's offsets are the reference's. -/
theorem offs_rel (X : S4x4096x3.Idx → ℝ) (hX : ∀ i, pts m c i = ((X i : ℝ) : EReal)) (hb : ∀ i, |X i| < 2 ^ 60)
    (t : Fin cfg0.N) (r : Fin 512) (b : Fin 4) (n : Fin 4096) (l : Fin 48) (et : cloud t = b) (er : point t r = n)
    (h : Host.Apart (Host.key (pts m c)) b n) :
    offs (iblk m c 0 t) (iblk m c 1 t) (iblk m c 2 t) (l.val / 3) (ix2 r ⟨l.val % 3, by omega⟩)
      = Host.rel (pts m c) (ix4 b n ⟨l.val / 3, by omega⟩ ⟨l.val % 3, by omega⟩) := by
  subst et er
  rw [Host.rel_at]
  refine (offs_at m c X hX hb t r h ⟨l.val / 3, by omega⟩ ⟨l.val % 3, by omega⟩).trans ?_
  have e : Host.nearest (pts m c) (cloud t) (point t r) (Fin.succ ⟨l.val / 3, by omega⟩)
      = Host.order (Host.key (pts m c)) (cloud t) (point t r) ⟨1 + l.val / 3, by omega⟩ :=
    congrArg (Host.order (Host.key (pts m c)) (cloud t) (point t r)) (Fin.ext (Nat.add_comm _ _))
  rw [e]

/-- Where the mask is set the first result is the reference's. -/
theorem first_eq (hp : Cert.Pre_in_range.fn (F := Ideal) (pts m c) = fun _ => 1#1) (i : S4x4096x48.Idx)
    (h : (Cert.On_separated.fn (F := Ideal) (pts m c)).1 i = 1#1) :
    (dats m 0 c).arrAt 3 cfg0.N i
      = shapeCast Cert.KnnRefIdeal.S4x4096x48 (Host.rel (pts m c)) Cert.KnnRefIdeal.Gen.shapeCasts_S4x4096x16x3_S4x4096x48 i := by
  obtain ⟨X, hX, hb⟩ := Range.real_of_range (pts m c) hp
  obtain ⟨b, n, l, rfl⟩ : ∃ (b : Fin 4) (n : Fin 4096) (l : Fin 48), i = ix3 b n l := ⟨i 0, i 1, i 2, by funext a; fin_cases a <;> rfl⟩
  have hN : cfg0.N = 32 := N_0
  obtain ⟨t, ht⟩ : ∃ t : Fin cfg0.N, t.val = b.val * 8 + n.val / 512 := ⟨⟨b.val * 8 + n.val / 512, by omega⟩, rfl⟩
  rw [arr3 m c b n l t ht]
  refine (offs_rel m c X hX hb t _ b n l (Fin.ext ?_) (Fin.ext ?_) (Host.apart_of_mask0 _ b n l h)).trans (Host.rows_at _ b n l).symm
  · show t.val / 8 = b.val
    omega
  · show t.val % 8 * 512 + n.val % 512 = n.val
    omega

/-- Where the mask is set the second result is the reference's. -/
theorem second_eq (hp : Cert.Pre_in_range.fn (F := Ideal) (pts m c) = fun _ => 1#1) (i : S4x8x48.Idx)
    (h : (Cert.On_separated.fn (F := Ideal) (pts m c)).2 i = 1#1) :
    (dats m 0 c).arrAt 4 cfg0.N i = Host.moments (Host.rel (pts m c)) i := by
  obtain ⟨X, hX, hb⟩ := Range.real_of_range (pts m c) hp
  obtain ⟨b, s, l, rfl⟩ : ∃ (b : Fin 4) (s : Fin 8) (l : Fin 48), i = ix3 b s l := ⟨i 0, i 1, i 2, by funext a; fin_cases a <;> rfl⟩
  have hN : cfg0.N = 32 := N_0
  refine (arr4 m c b s l).trans (?_ : (∑ u ∈ Finset.range 8, blockSum m c (b.val * 8 + u) s l : EReal) = _)
  rw [Host.moments_at, Finset.sum_range, ← sum_blocks]
  refine Finset.sum_congr rfl fun u _ => ?_
  have hu : b.val * 8 + u.val < cfg0.N := by omega
  rw [blockSum, dif_pos hu, sumsOf_at]
  refine Finset.sum_congr rfl fun r _ => congrArg (Host.term s) ?_
  refine offs_rel m c X hX hb ⟨b.val * 8 + u.val, hu⟩ r b _ l (Fin.ext ?_) (Fin.ext ?_) (Host.apart_of_mask1 _ b s l h _)
  · show (b.val * 8 + u.val) / 8 = b.val
    omega
  · show (b.val * 8 + u.val) % 8 * 512 + r.val = u.val * 512 + r.val
    omega

end Cert.Near
-- ==== Proof.Embed.lean ====
module

public import proofs.«01_k».proof.Proof.Gen.GpeIdeal.Frame
public import Idealize.ShloMosaic.Lib.WholeRead
public import Idealize.ShloMosaic.Lib.Pointwise

@[expose] public section

set_option maxRecDepth 16384

noncomputable section

/-! The embedding's block in a few words: two neighbours at a time, one in each half of the 128 lanes. -/

namespace Cert.Emb

open Idealize.ShloMosaic Cert.GpeIdeal Cert.GpeIdeal.Gen

variable {F : FTy → Type} [FloatOps F]

/-- One value per lane and point. -/
abbrev Lane (F : FTy → Type) := FVec F S512x128 .f32

/-- A constant in every lane. -/
def all (w : BitVec 32) : Lane F := broadcast S512x128 (Scalar.ofBits .f32 w : F .f32)

theorem colOk (n : ℕ) (h : n < 48) : S512x48.Slices ![0, n] S512x1 := by
  revert n; decide
theorem rowOk (n : ℕ) (h : n < 16) : S16x128.Slices ![n, 0] S1x128 := by
  revert n; decide

/-- Column `n` of the offsets in every lane. -/
def col (v1 : FVec F S512x48 .f32) (n : ℕ) (h : n < 48) : Lane F :=
  broadcastTo S512x128 (extractStridedSlice S512x1 ![0, n] v1 (colOk n h)) broadcasts_S512x1_S512x128

/-- Row `n` of the table for every point. -/
def row (v3 : FVec F S16x128 .f32) (n : ℕ) (h : n < 16) : Lane F :=
  broadcastTo S512x128 (extractStridedSlice S1x128 ![n, 0] v3 (rowOk n h)) broadcasts_S1x128_S512x128

/-- The coordinate that a lane wants of the pair `p` of neighbours. -/
def coord (v1 : FVec F S512x48 .f32) (v3 : FVec F S16x128 .f32) (p : ℕ) (h : p < 8) : Lane F :=
  addf (addf (addf (addf (addf (mulf (col v1 (6 * p) (by omega)) (row v3 10 (by omega)))
    (mulf (col v1 (6 * p + 1) (by omega)) (row v3 11 (by omega))))
    (mulf (col v1 (6 * p + 2) (by omega)) (row v3 12 (by omega))))
    (mulf (col v1 (6 * p + 3) (by omega)) (row v3 13 (by omega))))
    (mulf (col v1 (6 * p + 4) (by omega)) (row v3 14 (by omega))))
    (mulf (col v1 (6 * p + 5) (by omega)) (row v3 15 (by omega)))

/-- The embedding's argument. -/
def arg (v1 : FVec F S512x48 .f32) (v3 : FVec F S16x128 .f32) (p : ℕ) (h : p < 8) : Lane F :=
  subf (mulf (coord v1 v3 p h) (row v3 p (by omega))) (row v3 8 (by omega))

/-- The bell of an argument. -/
def bell (u : Lane F) : Lane F := exp (mulf (all 0xBF000000#32) (mulf u u))

/-- The whole turns in an argument. -/
def turns (u : Lane F) : Lane F := roundeven (mulf u (all 0x3E22F983#32))

/-- The argument without its whole turns. -/
def rest (u : Lane F) : Lane F :=
  subf (subf u (mulf (turns u) (all 0x40C90FDB#32))) (mulf (turns u) (all 0xB43BBD2E#32))

/-- The polynomial for the cosine, of a square. -/
def poly (s : Lane F) : Lane F :=
  addf (mulf (addf (mulf (addf (mulf (addf (mulf (addf (mulf (all 0xB46E4E3A#32) s) (all 0x37CB7354#32)) s) (all 0xBAB5B3A9#32)) s)
    (all 0x3D2AA4C2#32)) s) (all 0xBEFFFF6C#32)) s) (all 0x3F7FFFF7#32)

/-- The polynomial at an argument without its whole turns. -/
def wave (u : Lane F) : Lane F := poly (mulf (rest u) (rest u))

/-- The blend of the wave and the bell. -/
def blend (b : Lane F) (u : Lane F) : Lane F := addf (wave u) (mulf b (subf (bell u) (wave u)))

/-- The greatest embedding over the first `p` pairs of neighbours. -/
def best (v1 : FVec F S512x48 .f32) (v3 : FVec F S16x128 .f32) : (p : ℕ) → p ≤ 8 → Lane F
  | 0, _ => all 0xFF61B1E6#32
  | p + 1, h => maximumf (best v1 v3 p (by omega)) (blend (row v3 9 (by omega)) (arg v1 v3 p (by omega)))

/-- A block's sums of the greatest embedding over both halves. -/
def sums (v1 : FVec F S512x48 .f32) (v3 : FVec F S16x128 .f32) : FVec F S1x64 .f32 :=
  shapeCast S1x64 (multiReduction .add [0] S64
    (maximumf (extractStridedSlice S512x64 ![0, 0] (best v1 v3 8 (by omega)) slices_S512x128_o0_0_S512x64)
      (extractStridedSlice S512x64 ![0, 64] (best v1 v3 8 (by omega)) slices_S512x128_o0_64_S512x64))
    0x00000000#32 reduces_S512x64_S64 (.inl rfl) rfl) shapeCasts_S64_S1x64

section
variable (c : Dev nD) (i : grid0.Coords) (arg2 : Memref sig .tc .vmem S1x512x48 .f32) (harg2 : arg2.IsWhole) (arg3 : Memref sig .tc .vmem S16x128 .f32) (harg3 : arg3.IsWhole) (arg4 : Memref sig .tc .vmem S1x1x64 .f32) (harg4 : arg4.IsWhole)
    (x0 : Vec F S1x512x48 .f32) (x1 : Vec F S16x128 .f32)

/-- What the block reads of the offsets. -/
abbrev get0 : Vec F S1x512x48 .f32 := View.readAt (Elt F) arg2.view (Rect.unit ![0, 0, 0] S1x512x48.size inb_S1x512x48_S1x512x48_0_0_0).toLoadRect (harg2.unread x0)
/-- What the block reads of the table. -/
abbrev get1 : Vec F S16x128 .f32 := View.readAt (Elt F) arg3.view (Rect.unit ![0, 0] S16x128.size inb_S16x128_S16x128_0_0).toLoadRect (harg3.unread x1)

/-- The one store of the sums at a cloud's first block. -/
theorem pieceA (hc0 : cond0_0 i) (hc1 : ¬cond0_1 i) :
    (kernelRun0_A c i arg2 harg2 arg3 harg3 arg4 harg4 hc0 hc1 x0 x1).1
      = [⟨Rect.unit ![0, 0, 0] S1x1x64.size inb_S1x1x64_S1x1x64_0_0_0,
          shapeCast S1x1x64 (sums (k0_pay2 (get0 arg2 harg2 x0)) (k0_pay3 (get1 arg3 harg3 x1))) shapeCasts_S1x64_S1x1x64⟩] := by
  sl_kernel_rfl

variable (xo2 : Vec F S1x1x64 .f32)

/-- What the block reads of the sums so far. -/
abbrev get2 : Vec F S1x1x64 .f32 := View.readAt (Elt F) arg4.view (Rect.unit ![0, 0, 0] S1x1x64.size inb_S1x1x64_S1x1x64_0_0_0).toLoadRect (harg4.unread xo2)

/-- The one store of the sums at a cloud's later block. -/
theorem pieceB (hc0 : ¬cond0_0 i) (hc1 : cond0_1 i) :
    (kernelRun0_B c i arg2 harg2 arg3 harg3 arg4 harg4 hc0 hc1 x0 x1 xo2).1
      = [⟨Rect.unit ![0, 0, 0] S1x1x64.size inb_S1x1x64_S1x1x64_0_0_0,
          k0_pay1 (sums (k0_pay2 (get0 arg2 harg2 x0)) (k0_pay3 (get1 arg3 harg3 x1))) (get2 arg4 harg4 xo2)⟩] := by
  sl_kernel_rfl

/-- The block of offsets is read whole. -/
theorem get0_eq : get0 arg2 harg2 x0 = x0 := by
  funext z
  rw [get0, Memref.IsWhole.readAt_unread]
  congr 1
  funext a
  apply Fin.ext
  fin_cases a
  · simp [LoadRect.idx, Rect.unit]
  all_goals simp [LoadRect.idx, Rect.unit]

/-- The table is read whole. -/
theorem get1_eq : get1 arg3 harg3 x1 = x1 := by
  funext z
  rw [get1, Memref.IsWhole.readAt_unread]
  congr 1
  funext a
  apply Fin.ext
  fin_cases a
  all_goals simp [LoadRect.idx, Rect.unit]

/-- The sums so far are read whole. -/
theorem get2_eq : get2 arg4 harg4 xo2 = xo2 := by
  funext z
  rw [get2, Memref.IsWhole.readAt_unread]
  congr 1
  funext a
  apply Fin.ext
  fin_cases a
  · simp [LoadRect.idx, Rect.unit]
  · simp [LoadRect.idx, Rect.unit]
  all_goals simp [LoadRect.idx, Rect.unit]

end

end Cert.Emb
-- ==== Proof.Cosine.lean ====
module

public import Idealize.ShloMosaic.PureOps.Ideal

@[expose] public section

noncomputable section

/-! The kernel's polynomial is near the cosine: facts about real numbers alone. -/

namespace Cert.Emb

open Idealize.ShloMosaic

/-- The polynomial that the kernel has for the cosine, of the square of the angle. -/
def polR (s : ℝ) : ℝ :=
  ((((-(7808797 / 35184372088832 : ℝ) * s + 3333333 / 137438953472) * s + -(11908009 / 8589934592)) * s + 5591649 / 134217728) * s
    + -(4194267 / 8388608)) * s + 16777207 / 16777216

/-- The cosine's series up to the eighteenth power, of the square of the angle. -/
def serR (s : ℝ) : ℝ :=
  1 - s / 2 + s ^ 2 / 24 - s ^ 3 / 720 + s ^ 4 / 40320 - s ^ 5 / 3628800 + s ^ 6 / 479001600 - s ^ 7 / 87178291200
    + s ^ 8 / 20922789888000 - s ^ 9 / 6402373705728000

/-- A power of something no larger than `r`. -/
theorem pow_bounds {x r : ℝ} (h : |x| ≤ r) (k : ℕ) : -(r ^ k) ≤ x ^ k ∧ x ^ k ≤ r ^ k :=
  abs_le.1 (by rw [abs_pow]; exact pow_le_pow_left₀ (abs_nonneg _) h k)

/-- Polynomial and series differ little around 99/40. -/
theorem low_half (x : ℝ) (h : |x| ≤ 99 / 40) : |polR (99 / 40 + x) - serR (99 / 40 + x)| ≤ 1 / 50000 := by
  obtain ⟨a1, b1⟩ := pow_bounds h 1
  obtain ⟨a2, b2⟩ := pow_bounds h 2
  obtain ⟨a3, b3⟩ := pow_bounds h 3
  obtain ⟨a4, b4⟩ := pow_bounds h 4
  obtain ⟨a5, b5⟩ := pow_bounds h 5
  obtain ⟨a6, b6⟩ := pow_bounds h 6
  obtain ⟨a7, b7⟩ := pow_bounds h 7
  obtain ⟨a8, b8⟩ := pow_bounds h 8
  obtain ⟨a9, b9⟩ := pow_bounds h 9
  unfold polR serR
  rw [abs_le]
  constructor <;> ring_nf at * <;> linarith

/-- Polynomial and series differ little around 297/40. -/
theorem high_half (x : ℝ) (h : |x| ≤ 99 / 40) : |polR (297 / 40 + x) - serR (297 / 40 + x)| ≤ 1 / 50000 := by
  obtain ⟨a1, b1⟩ := pow_bounds h 1
  obtain ⟨a2, b2⟩ := pow_bounds h 2
  obtain ⟨a3, b3⟩ := pow_bounds h 3
  obtain ⟨a4, b4⟩ := pow_bounds h 4
  obtain ⟨a5, b5⟩ := pow_bounds h 5
  obtain ⟨a6, b6⟩ := pow_bounds h 6
  obtain ⟨a7, b7⟩ := pow_bounds h 7
  obtain ⟨a8, b8⟩ := pow_bounds h 8
  obtain ⟨a9, b9⟩ := pow_bounds h 9
  unfold polR serR
  rw [abs_le]
  constructor <;> ring_nf at * <;> linarith

/-- Polynomial and series differ little up to 99/10. -/
theorem pol_ser (s : ℝ) (h0 : 0 ≤ s) (h1 : s ≤ 99 / 10) : |polR s - serR s| ≤ 1 / 50000 := by
  rcases le_total s (99 / 20) with h | h
  · have := low_half (s - 99 / 40) (abs_le.2 ⟨by linarith, by linarith⟩)
    rwa [add_sub_cancel] at this
  · have := high_half (s - 297 / 40) (abs_le.2 ⟨by linarith, by linarith⟩)
    rwa [add_sub_cancel] at this

/-- The series is the real part of the exponential's. -/
theorem ser_re (t : ℝ) : (∑ m ∈ Finset.range 20, ((t : ℂ) * Complex.I) ^ m / (m.factorial : ℂ)).re = serR (t ^ 2) := by
  have h2 : ∀ k : ℕ, ((t : ℂ) * Complex.I) ^ (2 * k) = (((-1) ^ k * t ^ (2 * k) : ℝ) : ℂ) := fun k => by
    rw [mul_pow, pow_mul Complex.I, Complex.I_sq]
    push_cast
    ring
  have h3 : ∀ k : ℕ, ((t : ℂ) * Complex.I) ^ (2 * k + 1) = (((-1) ^ k * t ^ (2 * k + 1) : ℝ) : ℂ) * Complex.I := fun k => by
    rw [pow_succ, h2 k]
    push_cast
    ring
  have he : ∀ k : ℕ, (((t : ℂ) * Complex.I) ^ (2 * k) / ((2 * k).factorial : ℂ)).re = (-1) ^ k * t ^ (2 * k) / ((2 * k).factorial : ℝ) := fun k => by
    rw [h2 k, show ((2 * k).factorial : ℂ) = (((2 * k).factorial : ℝ) : ℂ) by push_cast; rfl, ← Complex.ofReal_div, Complex.ofReal_re]
  have ho : ∀ k : ℕ, (((t : ℂ) * Complex.I) ^ (2 * k + 1) / ((2 * k + 1).factorial : ℂ)).re = 0 := fun k => by
    rw [h3 k, show ((2 * k + 1).factorial : ℂ) = (((2 * k + 1).factorial : ℝ) : ℂ) by push_cast; rfl, mul_div_right_comm, ← Complex.ofReal_div, Complex.re_ofReal_mul, Complex.I_re, mul_zero]
  rw [Complex.re_sum]
  simp only [Finset.sum_range_succ, Finset.sum_range_zero]
  have e0 := he 0; have e1 := he 1; have e2 := he 2; have e3 := he 3; have e4 := he 4
  have e5 := he 5; have e6 := he 6; have e7 := he 7; have e8 := he 8; have e9 := he 9
  have o0 := ho 0; have o1 := ho 1; have o2 := ho 2; have o3 := ho 3; have o4 := ho 4
  have o5 := ho 5; have o6 := ho 6; have o7 := ho 7; have o8 := ho 8; have o9 := ho 9
  simp only [Nat.reduceMul, Nat.reduceAdd] at e0 e1 e2 e3 e4 e5 e6 e7 e8 e9 o0 o1 o2 o3 o4 o5 o6 o7 o8 o9
  rw [e0, e1, e2, e3, e4, e5, e6, e7, e8, e9, o0, o1, o2, o3, o4, o5, o6, o7, o8, o9]
  unfold serR
  norm_num [Nat.factorial]
  ring

/-- The cosine is near its series. -/
theorem cos_ser (t : ℝ) (h : |t| ≤ 10) : |Real.cos t - serR (t ^ 2)| ≤ (t ^ 2) ^ 10 / (20).factorial * 2 := by
  have hb := Complex.exp_bound' (x := (t : ℂ) * Complex.I) (n := 20) (by
    simp only [norm_mul, Complex.norm_real, Real.norm_eq_abs, Complex.norm_I, mul_one]
    norm_num
    linarith)
  have hre := (Complex.abs_re_le_norm _).trans hb
  rw [Complex.sub_re, Complex.exp_ofReal_mul_I_re, ser_re] at hre
  simp only [norm_mul, Complex.norm_real, Real.norm_eq_abs, Complex.norm_I, mul_one] at hre
  rwa [show |t| ^ 20 = (t ^ 2) ^ 10 by rw [← pow_mul, ← abs_pow, abs_of_nonneg (by positivity)]] at hre

/-- A sine is no larger than its angle. -/
theorem sin_small (x : ℝ) : |Real.sin x| ≤ |x| := by
  rcases le_total 1 |x| with h | h
  · exact (Real.abs_sin_le_one x).trans h
  · have hb := Real.sin_bound h
    rw [abs_le] at hb h
    rcases le_total 0 x with h0 | h0
    · rw [abs_of_nonneg h0] at *
      have h3 : x ^ 5 ≤ x ^ 3 := pow_le_pow_of_le_one h0 h.2 (by norm_num)
      have h4 : x ^ 3 ≤ x := by simpa using pow_le_pow_of_le_one h0 h.2 (show 1 ≤ 3 by norm_num)
      have h5 : 0 ≤ x ^ 3 := by positivity
      rw [abs_le]
      constructor <;> linarith [hb.1, hb.2]
    · rw [abs_of_nonpos h0] at *
      have h3 : (-x) ^ 5 ≤ (-x) ^ 3 := pow_le_pow_of_le_one (by linarith) (by linarith) (by norm_num)
      have h4 : (-x) ^ 3 ≤ -x := by simpa using pow_le_pow_of_le_one (show 0 ≤ -x by linarith) (by linarith) (show 1 ≤ 3 by norm_num)
      have h5 : 0 ≤ (-x) ^ 3 := pow_nonneg (by linarith) 3
      have h6 : (-x) ^ 3 = - x ^ 3 := by ring
      rw [abs_le]
      constructor <;> linarith [hb.1, hb.2]

/-- A small angle is at most twice its sine. -/
theorem sin_large (x : ℝ) (h0 : 0 ≤ x) (h1 : x ≤ 1) : x ≤ 2 * Real.sin x := by
  have hb := Real.sin_bound (show |x| ≤ 1 by rw [abs_of_nonneg h0]; exact h1)
  rw [abs_of_nonneg h0, abs_le] at hb
  have h3 : x ^ 5 ≤ x := by simpa using pow_le_pow_of_le_one h0 h1 (show 1 ≤ 5 by norm_num)
  have h4 : x ^ 3 ≤ x := by simpa using pow_le_pow_of_le_one h0 h1 (show 1 ≤ 3 by norm_num)
  linarith [hb.1]

/-- Cosines differ by no more than their angles. -/
theorem cos_lipschitz (a b : ℝ) : |Real.cos a - Real.cos b| ≤ |a - b| := by
  rw [Real.cos_sub_cos, abs_mul, abs_mul]
  have h1 := Real.abs_sin_le_one ((a + b) / 2)
  have h2 := sin_small ((a - b) / 2)
  rw [abs_div] at h2
  have : |(-2 : ℝ)| = 2 := by norm_num
  rw [this]
  have : |(2 : ℝ)| = 2 := by norm_num
  rw [this] at h2
  nlinarith [abs_nonneg (Real.sin ((a - b) / 2)), abs_nonneg (Real.sin ((a + b) / 2))]

/-- The kernel's full turn, in two words. -/
def turnR : ℝ := 13176795 / 2097152 + -(6151831 / 35184372088832)

/-- It is nearly twice pi. -/
theorem turn_near : |2 * Real.pi - turnR| ≤ 1 / 10 ^ 10 := by
  have hc := cos_ser (turnR / 4) (by unfold turnR; rw [abs_le]; constructor <;> norm_num)
  have hs : |serR ((turnR / 4) ^ 2)| ≤ 1 / 10 ^ 12 := by
    unfold serR turnR
    rw [abs_le]; constructor <;> norm_num
  have hr : ((turnR / 4) ^ 2) ^ 10 / ((20).factorial : ℝ) * 2 ≤ 1 / 10 ^ 12 := by
    unfold turnR
    norm_num [Nat.factorial]
  have h1 : |Real.cos (turnR / 4)| ≤ 2 / 10 ^ 12 := by
    rw [abs_le] at *
    constructor <;> linarith [hc.1, hc.2, hs.1, hs.2]
  have t1 : turnR ≤ 8 := by unfold turnR; norm_num
  have t0 : 0 ≤ turnR := by unfold turnR; norm_num
  have p2 := Real.two_le_pi
  have p4 := Real.pi_le_four
  rw [← Real.sin_pi_div_two_sub] at h1
  have h2 : |Real.pi / 2 - turnR / 4| ≤ 4 / 10 ^ 12 := by
    have tl : turnR ≤ 32 / 5 := by unfold turnR; norm_num
    have tg : 6 ≤ turnR := by unfold turnR; norm_num
    have y1 : Real.pi / 2 - turnR / 4 ≤ 1 := by linarith
    have y0 : -1 ≤ Real.pi / 2 - turnR / 4 := by linarith
    generalize Real.pi / 2 - turnR / 4 = y at h1 y0 y1 ⊢
    rw [abs_le] at h1 ⊢
    rcases le_total 0 y with h | h
    · have hm := sin_large y h y1
      constructor <;> linarith [h1.1, h1.2]
    · have hm := sin_large (-y) (by linarith) (by linarith)
      rw [Real.sin_neg] at hm
      constructor <;> linarith [h1.1, h1.2]
  rw [abs_le] at *
  constructor <;> linarith [h2.1, h2.2]

/-- The kernel's angle without its whole turns. -/
def restR (u : ℝ) : ℝ :=
  u - (Ideal.roundHalfEven (u * (10680707 / 67108864)) : ℝ) * (13176795 / 2097152)
    - (Ideal.roundHalfEven (u * (10680707 / 67108864)) : ℝ) * -(6151831 / 35184372088832)

/-- Rounding moves a number by at most a half. -/
theorem round_near (r : ℝ) : |r - (Ideal.roundHalfEven r : ℝ)| ≤ 1 / 2 := by
  unfold Ideal.roundHalfEven
  have h0 := Int.floor_le r
  have h1 := Int.lt_floor_add_one r
  dsimp only
  split_ifs with ha hb hc <;> rw [abs_le] <;> constructor <;> push_cast <;> linarith

/-- The kernel's polynomial at its reduced angle is near the cosine. -/
theorem wave_near (u : ℝ) (h : |u| ≤ 14000) : |polR (restR u * restR u) - Real.cos u| ≤ 1 / 40000 := by
  generalize hq : Ideal.roundHalfEven (u * (10680707 / 67108864)) = q
  have hr := round_near (u * (10680707 / 67108864))
  rw [hq] at hr
  have hrest : restR u = u - q * turnR := by
    unfold restR turnR
    rw [hq]
    ring
  rw [abs_le] at hr h
  have hq1 : |(q : ℝ)| ≤ 2500 := by
    rw [abs_le]; constructor <;> linarith [hr.1, hr.2, h.1, h.2]
  have ht : |restR u| ≤ 31424 / 10000 := by
    rw [hrest]
    unfold turnR
    rw [abs_le] at *
    constructor <;> linarith [hr.1, hr.2, h.1, h.2, hq1.1, hq1.2]
  have hsq : restR u ^ 2 ≤ 99 / 10 := by
    rw [← sq_abs]
    nlinarith [abs_nonneg (restR u)]
  have hp := pol_ser (restR u ^ 2) (sq_nonneg _) hsq
  have hc := cos_ser (restR u) (ht.trans (by norm_num))
  have hrem : (restR u ^ 2) ^ 10 / ((20).factorial : ℝ) * 2 ≤ 1 / 10 ^ 6 := by
    have : (restR u ^ 2) ^ 10 ≤ (99 / 10) ^ 10 := pow_le_pow_left₀ (sq_nonneg _) hsq 10
    norm_num [Nat.factorial] at this ⊢
    linarith
  have hd : |Real.cos (restR u) - Real.cos u| ≤ 1 / 10 ^ 6 := by
    have e : Real.cos u = Real.cos (u - q * (2 * Real.pi)) := (Real.cos_sub_int_mul_two_pi u q).symm
    rw [e]
    refine (cos_lipschitz _ _).trans ?_
    rw [hrest, show u - q * turnR - (u - q * (2 * Real.pi)) = q * (2 * Real.pi - turnR) by ring, abs_mul]
    calc _ ≤ 2500 * (1 / 10 ^ 10 : ℝ) := mul_le_mul hq1 turn_near (abs_nonneg _) (by norm_num)
      _ ≤ _ := by norm_num
  rw [← pow_two]
  have hc' := hc.trans hrem
  rw [abs_le] at hp hc' hd ⊢
  constructor <;> linarith [hp.1, hp.2, hc'.1, hc'.2, hd.1, hd.2]

end Cert.Emb
-- ==== Proof.Waves.lean ====
module

public import proofs.«01_k».proof.Proof.Embed
public import proofs.«01_k».proof.Proof.Cosine

@[expose] public section

set_option maxRecDepth 16384

noncomputable section

/-! The embedding's block read at one lane and point, in real numbers. -/

namespace Cert.Emb

open Idealize.ShloMosaic Cert.GpeIdeal Cert.GpeIdeal.Gen

theorem w_half : Ideal.ofBits FTy.f32 0xBF000000#32 = ((-(1 / 2) : ℝ) : EReal) := by
  simp [Ideal.ofBits, Ideal.ieee]; rw [← EReal.coe_mul]; norm_num
theorem w_turn : Ideal.ofBits FTy.f32 0x3E22F983#32 = ((10680707 / 67108864 : ℝ) : EReal) := by
  simp [Ideal.ofBits, Ideal.ieee]; rw [← EReal.coe_mul]; norm_num
theorem w_pi1 : Ideal.ofBits FTy.f32 0x40C90FDB#32 = ((13176795 / 2097152 : ℝ) : EReal) := by
  simp [Ideal.ofBits, Ideal.ieee]; rw [← EReal.coe_mul]; norm_num
theorem w_pi2 : Ideal.ofBits FTy.f32 0xB43BBD2E#32 = ((-(6151831 / 35184372088832) : ℝ) : EReal) := by
  simp [Ideal.ofBits, Ideal.ieee]; rw [← EReal.coe_mul]; norm_num
theorem w_c5 : Ideal.ofBits FTy.f32 0xB46E4E3A#32 = ((-(7808797 / 35184372088832) : ℝ) : EReal) := by
  simp [Ideal.ofBits, Ideal.ieee]; rw [← EReal.coe_mul]; norm_num
theorem w_c4 : Ideal.ofBits FTy.f32 0x37CB7354#32 = ((3333333 / 137438953472 : ℝ) : EReal) := by
  simp [Ideal.ofBits, Ideal.ieee]; rw [← EReal.coe_mul]; norm_num
theorem w_c3 : Ideal.ofBits FTy.f32 0xBAB5B3A9#32 = ((-(11908009 / 8589934592) : ℝ) : EReal) := by
  simp [Ideal.ofBits, Ideal.ieee]; rw [← EReal.coe_mul]; norm_num
theorem w_c2 : Ideal.ofBits FTy.f32 0x3D2AA4C2#32 = ((5591649 / 134217728 : ℝ) : EReal) := by
  simp [Ideal.ofBits, Ideal.ieee]; rw [← EReal.coe_mul]; norm_num
theorem w_c1 : Ideal.ofBits FTy.f32 0xBEFFFF6C#32 = ((-(4194267 / 8388608) : ℝ) : EReal) := by
  simp [Ideal.ofBits, Ideal.ieee]; rw [← EReal.coe_mul]; norm_num
theorem w_c0 : Ideal.ofBits FTy.f32 0x3F7FFFF7#32 = ((16777207 / 16777216 : ℝ) : EReal) := by
  simp [Ideal.ofBits, Ideal.ieee]; rw [← EReal.coe_mul]; norm_num
theorem w_low : Ideal.ofBits FTy.f32 0xFF61B1E6#32 = ((-(14791142 * 2 ^ 104) : ℝ) : EReal) := by
  simp [Ideal.ofBits, Ideal.ieee]

/-- The bell, in real numbers. -/
def bellR (u : ℝ) : ℝ := Real.exp (-(1 / 2) * (u * u))

/-- The embedding of an argument, in real numbers. -/
def embR (b u : ℝ) : ℝ := polR (restR u * restR u) + b * (bellR u - polR (restR u * restR u))

/-- The embedding read at one lane and point. -/
theorem blend_at (b u : Lane Ideal) (r : Fin 512) (l : Fin 128) (br ur : ℝ) (hb : b (ix2 r l) = ((br : ℝ) : EReal))
    (hu : u (ix2 r l) = ((ur : ℝ) : EReal)) : blend b u (ix2 r l) = ((embR br ur : ℝ) : EReal) := by
  pointwise [blend, wave, poly, rest, turns, bell, all]
  rw [hb, hu, w_half, w_turn, w_pi1, w_pi2, w_c5, w_c4, w_c3, w_c2, w_c1, w_c0]
  simp only [← EReal.coe_mul, ← EReal.coe_add, ← EReal.coe_sub, Ideal.exp_coe, Ideal.liftRound_coe]
  rfl

theorem col_at (v1 : FVec Ideal S512x48 .f32) (n : ℕ) (h : n < 48) (r : Fin 512) (l : Fin 128) :
    col v1 n h (ix2 r l) = v1 (ix2 r ⟨n, h⟩) := by
  unfold col
  refine congrArg v1 ?_
  funext a
  apply Fin.ext
  fin_cases a
  · show 0 + r.val = r.val
    omega
  · rfl

theorem row_at (v3 : FVec Ideal S16x128 .f32) (n : ℕ) (h : n < 16) (r : Fin 512) (l : Fin 128) :
    row v3 n h (ix2 r l) = v3 (ix2 ⟨n, h⟩ l) := by
  unfold row
  refine congrArg v3 ?_
  funext a
  apply Fin.ext
  fin_cases a
  · rfl
  · show 0 + l.val = l.val
    omega

/-- A lane's coordinate is the one that its mask singles out. -/
theorem coord_at (v1 : FVec Ideal S512x48 .f32) (v3 : FVec Ideal S16x128 .f32) (p : ℕ) (h : p < 8) (r : Fin 512) (l : Fin 128)
    (X : Fin 48 → ℝ) (o : Fin 6) (hx : ∀ q, v1 (ix2 r q) = ((X q : ℝ) : EReal))
    (hm : ∀ q : Fin 6, v3 (ix2 ⟨10 + q.val, by omega⟩ l) = ((if q = o then 1 else 0 : ℝ) : EReal)) :
    coord v1 v3 p h (ix2 r l) = ((X ⟨6 * p + o.val, by omega⟩ : ℝ) : EReal) := by
  have m0 := hm 0; have m1 := hm 1; have m2 := hm 2; have m3 := hm 3; have m4 := hm 4; have m5 := hm 5
  have e : coord v1 v3 p h (ix2 r l) = col v1 (6 * p) (by omega) (ix2 r l) * row v3 10 (by omega) (ix2 r l)
    + col v1 (6 * p + 1) (by omega) (ix2 r l) * row v3 11 (by omega) (ix2 r l)
    + col v1 (6 * p + 2) (by omega) (ix2 r l) * row v3 12 (by omega) (ix2 r l)
    + col v1 (6 * p + 3) (by omega) (ix2 r l) * row v3 13 (by omega) (ix2 r l)
    + col v1 (6 * p + 4) (by omega) (ix2 r l) * row v3 14 (by omega) (ix2 r l)
    + col v1 (6 * p + 5) (by omega) (ix2 r l) * row v3 15 (by omega) (ix2 r l) := rfl
  rw [e]
  simp only [col_at, row_at, hx]
  erw [m0, m1, m2, m3, m4, m5]
  simp only [← EReal.coe_mul, ← EReal.coe_add]
  congr 1
  fin_cases o <;> simp

/-- The argument read at one lane and point. -/
theorem arg_at (v1 : FVec Ideal S512x48 .f32) (v3 : FVec Ideal S16x128 .f32) (p : ℕ) (h : p < 8) (r : Fin 512) (l : Fin 128)
    (X : Fin 48 → ℝ) (o : Fin 6) (hx : ∀ q, v1 (ix2 r q) = ((X q : ℝ) : EReal))
    (hm : ∀ q : Fin 6, v3 (ix2 ⟨10 + q.val, by omega⟩ l) = ((if q = o then 1 else 0 : ℝ) : EReal))
    (i f : ℝ) (hi : v3 (ix2 ⟨p, by omega⟩ l) = ((i : ℝ) : EReal)) (hf : v3 (ix2 8 l) = ((f : ℝ) : EReal)) :
    arg v1 v3 p h (ix2 r l) = ((X ⟨6 * p + o.val, by omega⟩ * i - f : ℝ) : EReal) := by
  have e : arg v1 v3 p h (ix2 r l) = coord v1 v3 p h (ix2 r l) * row v3 p (by omega) (ix2 r l) - row v3 8 (by omega) (ix2 r l) := rfl
  rw [e, coord_at v1 v3 p h r l X o hx hm, row_at, row_at, hi]
  erw [hf]
  rw [← EReal.coe_mul, ← EReal.coe_sub]

/-- The greatest of the first `p` values and of a floor far below them. -/
def bestR (f : ℕ → ℝ) : ℕ → ℝ
  | 0 => -(14791142 * 2 ^ 104)
  | p + 1 => max (bestR f p) (f p)

/-- The greatest embedding read at one lane and point. -/
theorem best_at (v1 : FVec Ideal S512x48 .f32) (v3 : FVec Ideal S16x128 .f32) (r : Fin 512) (l : Fin 128)
    (b : ℝ) (f : ℕ → ℝ) (hb : v3 (ix2 9 l) = ((b : ℝ) : EReal))
    (ha : ∀ (p : ℕ) (h : p < 8), arg v1 v3 p h (ix2 r l) = ((f p : ℝ) : EReal)) :
    ∀ (p : ℕ) (h : p ≤ 8), best v1 v3 p h (ix2 r l) = ((bestR (fun q => embR b (f q)) p : ℝ) : EReal) := by
  intro p
  induction p with
  | zero =>
    intro h
    exact w_low
  | succ p ih =>
    intro h
    have e : best v1 v3 (p + 1) h (ix2 r l) = max (best v1 v3 p (by omega) (ix2 r l)) (blend (row v3 9 (by omega)) (arg v1 v3 p (by omega)) (ix2 r l)) := rfl
    rw [e, ih, blend_at _ _ r l b (f p) ?_ (ha p (by omega)), ← EReal.coe_strictMono.monotone.map_max]
    · rfl
    · rw [row_at]
      exact hb

/-- A block's sum read at one feature. -/
theorem sums_at (v1 : FVec Ideal S512x48 .f32) (v3 : FVec Ideal S16x128 .f32) (z : Fin 1) (j : Fin 64) :
    sums v1 v3 (ix2 z j) = ∑ r : Fin 512, max (best v1 v3 8 (le_refl _) (ix2 r ⟨j.val, by omega⟩)) (best v1 v3 8 (le_refl _) (ix2 r ⟨64 + j.val, by omega⟩)) := by
  pointwise [sums]

end Cert.Emb
-- ==== Proof.Tally.lean ====
module

public import proofs.«01_k».proof.Proof.Waves
public import proofs.«01_k».proof.Proof.Gen.GpeIdeal.Value
public import Idealize.ShloMosaic.Lib.Claim
public import Idealize.ShloMosaic.Lib.Pipeline.ValueKit

@[expose] public section

set_option maxRecDepth 16384

noncomputable section

/-! The embedding's result array, entry by entry, from its blocks. -/

namespace Cert.Emb

open Idealize.ShloMosaic Cert.GpeIdeal Cert.GpeIdeal.Gen

/-- Reading back one store of the whole block gives what was stored. -/
theorem read_whole (v : View sig .tc .vmem S1x1x64 .f32) (f) (w : Vec Ideal S1x1x64 .f32) (y : S1x1x64.Idx) :
    v.read (Elt Ideal) (v.writes (Elt Ideal) f [⟨Rect.unit ![0, 0, 0] S1x1x64.size inb_S1x1x64_S1x1x64_0_0_0, w⟩]) y = w y := by
  have he : ∀ x : S1x1x64.Idx, (Rect.unit ![0, 0, 0] S1x1x64.size inb_S1x1x64_S1x1x64_0_0_0).emb x = x := by
    intro x
    funext a
    apply Fin.ext
    fin_cases a
    · show 0 + 1 * (x 0).val = (x 0).val
      omega
    · show 0 + 1 * (x 1).val = (x 1).val
      omega
    · show 0 + 1 * (x 2).val = (x 2).val
      omega
  refine View.read_writes_apply_of_pieces v f w _ (fun p hp x => ?_) y ⟨_, List.mem_singleton_self _, ?_⟩
  · rw [List.mem_singleton] at hp
    subst hp
    exact congrArg w (he x).symm
  · have := LoadRect.idx_mem (Rect.unit ![0, 0, 0] S1x1x64.size inb_S1x1x64_S1x1x64_0_0_0).toLoadRect y
    exact (he y) ▸ this

/-- A block's sums, from the two blocks it reads. -/
def part (x0 : Vec Ideal S1x512x48 .f32) (x1 : Vec Ideal S16x128 .f32) : FVec Ideal S1x64 .f32 :=
  sums (k0_pay2 x0) (k0_pay3 x1)

section
variable (c : Dev nD) (i : grid0.Coords) (arg2 : Memref sig .tc .vmem S1x512x48 .f32) (harg2 : arg2.IsWhole) (arg3 : Memref sig .tc .vmem S16x128 .f32) (harg3 : arg3.IsWhole) (arg4 : Memref sig .tc .vmem S1x1x64 .f32) (harg4 : arg4.IsWhole)
    (x0 : Vec Ideal S1x512x48 .f32) (x1 : Vec Ideal S16x128 .f32)

/-- The sums a cloud's first block leaves. -/
theorem out2A (hc0 : cond0_0 i) (hc1 : ¬cond0_1 i) (j : Fin 64) :
    out0_A_2 c i arg2 harg2 arg3 harg3 arg4 harg4 hc0 hc1 x0 x1 (ix3 0 0 j) = part x0 x1 (ix2 0 j) := by
  unfold out0_A_2
  rw [pieceA, get0_eq, get1_eq]
  refine (read_whole _ _ _ _).trans ?_
  change shapeCast S1x1x64 (part x0 x1) shapeCasts_S1x64_S1x1x64 (ix3 0 0 j) = _
  generalize part x0 x1 = g
  pointwise []

variable (xo2 : Vec Ideal S1x1x64 .f32)

/-- The sums a cloud's later block leaves: those so far and its own. -/
theorem out2B (hc0 : ¬cond0_0 i) (hc1 : cond0_1 i) (j : Fin 64) :
    out0_B_2 c i arg2 harg2 arg3 harg3 arg4 harg4 hc0 hc1 x0 x1 xo2 (ix3 0 0 j) = xo2 (ix3 0 0 j) + part x0 x1 (ix2 0 j) := by
  unfold out0_B_2
  rw [pieceB, get0_eq, get1_eq, get2_eq]
  refine (read_whole _ _ _ _).trans ?_
  change k0_pay1 (part x0 x1) xo2 (ix3 0 0 j) = _
  generalize part x0 x1 = g
  pointwise [k0_pay1]

end

variable (m : (ℓ : Loc nD τ sig) → Buf (Elt Ideal) ℓ) (c : Dev nD)

/-- Where each window's block lies at each grid point. -/
theorem place : ∀ t : Fin cfg0.N, win0_0.index t = ![t.val / 8, t.val % 8, 0] ∧ win0_1.index t = ![0, 0]
    ∧ win0_2.index t = ![t.val / 8, 0, 0] :=
  (by decide +kernel : ∀ t : Fin grid0.N, win0_0.index t = ![t.val / 8, t.val % 8, 0] ∧ win0_1.index t = ![0, 0]
    ∧ win0_2.index t = ![t.val / 8, 0, 0])

/-- There are thirty-two grid points. -/
theorem lt32 (t : Fin cfg0.N) : t.val < 32 := lt_of_lt_of_eq t.isLt (show cfg0.N = 32 from N_0)

/-- The offsets as the kernel finds them. -/
abbrev rel : FVec Ideal S4x4096x48 .f32 := m ((c.tc : Thread nD τ).loc main_arg0)

/-- The offsets' block. -/
theorem in0 (t : Fin cfg0.N) (r : Fin 512) (q : Fin 48) :
    iblk m c 0 t (ix3 0 r q) = rel m c (ix3 ⟨t.val / 8, by have := lt32 t; omega⟩ ⟨t.val % 8 * 512 + r.val, by omega⟩ q) := by
  obtain ⟨e0, e1, e2⟩ := place t
  blk_ext! [iblk, V, e0, rel]

/-- The table's block is the whole table. -/
theorem in1 (t : Fin cfg0.N) (s : Fin 16) (l : Fin 128) : iblk m c 1 t (ix2 s l) = V m c main_v53 (ix2 s l) := by
  obtain ⟨e0, e1, e2⟩ := place t
  blk_ext! [iblk, e1]

/-- The sum of the block at a position, zero past the grid. -/
def blockSum (n : ℕ) (j : Fin 64) : EReal :=
  if h : n < cfg0.N then part (iblk m c 0 ⟨n, h⟩) (iblk m c 1 ⟨n, h⟩) (ix2 0 j) else 0

/-- What a cloud's first block leaves. -/
theorem outsA (j : Fin 64) (t : Fin cfg0.N) (h0 : t.val % 8 = 0) :
    outsAt0 m c t.val t.isLt (ix3 0 0 j) = blockSum m c t.val j := by
  rw [outsAt0_A m c t h0 (by omega), blockSum, dif_pos t.isLt]
  exact out2A c (grid0.coords t) (ms0_0 t) (hs0_0 t) (ms0_1 t) (hs0_1 t) (ms0_2 t) (hs0_2 t) (iblk m c 0 t) (iblk m c 1 t) ((hcond0_0 t).mpr h0) (fun h => absurd ((hcond0_1 t).mp h) (by omega)) j

/-- What a cloud's later block leaves. -/
theorem outsB (j : Fin 64) (t : Fin cfg0.N) (h0 : ¬t.val % 8 = 0) :
    outsAt0 m c t.val t.isLt (ix3 0 0 j)
      = outsAt0 m c (t.val - 1) (Nat.lt_of_le_of_lt (Nat.sub_le _ _) t.isLt) (ix3 0 0 j) + blockSum m c t.val j := by
  rw [outsAt0_B m c t h0 (by omega), blockSum, dif_pos t.isLt]
  exact out2B c (grid0.coords t) (ms0_0 t) (hs0_0 t) (ms0_1 t) (hs0_1 t) (ms0_2 t) (hs0_2 t) (iblk m c 0 t) (iblk m c 1 t) (outsAt0 m c (t.val - 1) (Nat.lt_of_le_of_lt (Nat.sub_le _ _) t.isLt)) (fun h => h0 ((hcond0_0 t).mp h)) ((hcond0_1 t).mpr (by omega)) j

/-- After every point the block holds the sums over the cloud's blocks so far. -/
theorem outs (j : Fin 64) : ∀ (n : ℕ) (hn : n < cfg0.N),
    outsAt0 m c n hn (ix3 0 0 j) = ∑ u ∈ Finset.range (n % 8 + 1), blockSum m c (n / 8 * 8 + u) j := by
  intro n
  induction n with
  | zero =>
    intro hn
    refine (outsA m c j ⟨0, hn⟩ (Nat.zero_mod _)).trans ?_
    simp
  | succ n ih =>
    intro hn
    by_cases h0 : (n + 1) % 8 = 0
    · refine (outsA m c j ⟨n + 1, hn⟩ h0).trans ?_
      rw [h0, zero_add, Finset.sum_range_one, show (n + 1) / 8 * 8 + 0 = n + 1 by omega]
    · refine (outsB m c j ⟨n + 1, hn⟩ h0).trans ?_
      have := ih (Nat.lt_of_succ_lt hn)
      rw [show (n + 1) % 8 + 1 = (n % 8 + 1) + 1 by omega, Finset.sum_range_succ, show (n + 1) / 8 = n / 8 by omega, ← this,
        show n / 8 * 8 + (n % 8 + 1) = n + 1 by omega]
      rfl

/-- Two different flushing points write different blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne
    ((by decide +kernel : ∀ t t' : Fin cfg0.N, (cfg0.win 2).flush t = true → (cfg0.win 2).flush t' = true →
      win0_2.index t = win0_2.index t' → t = t') t t' hf hf' h)

/-- Entry `(b, j)` of the result. -/
theorem arr2 (b : Fin 4) (j : Fin 64) :
    (dats m 0 c).arrAt 2 cfg0.N (ix3 b 0 j : S4x1x64.Idx) = ∑ u ∈ Finset.range 8, blockSum m c (b.val * 8 + u) j := by
  have hN : cfg0.N = 32 := N_0
  obtain ⟨t, ht⟩ : ∃ t : Fin cfg0.N, t.val = b.val * 8 + 7 := ⟨⟨b.val * 8 + 7, by omega⟩, rfl⟩
  have hf : (cfg0.win 2).flush t = true :=
    (by decide +kernel : ∀ t : Fin cfg0.N, t.val % 8 = 7 → (cfg0.win 2).flush t = true) t (by omega)
  have hb := (dats m 0 c).read_blk_arrAt_eq_flushed 2 disjoint2 cfg0.N t t.isLt hf
  obtain ⟨e0, e1, e2⟩ := place t
  have h := congrFun hb (ix3 0 0 j : S1x1x64.Idx)
  rw [Value.flushed2] at h
  have ho := outs m c j t.val t.isLt
  rw [show t.val % 8 + 1 = 8 by omega, show t.val / 8 = b.val by omega] at ho
  rw [← ho]
  have hi : (ix3 b 0 j : S4x1x64.Idx) = ((cfg0.win 2).blk t).view.emb (ix3 0 0 j : S1x1x64.Idx) := by
    blk_ext [e2]
  rw [hi]
  exact h

end Cert.Emb
-- ==== Proof.Params.lean ====
module

public import proofs.«01_k».proof.Proof.Tally
public import Idealize.ShloMosaic.Lib.StableHlo.RunRead

@[expose] public section

set_option maxRecDepth 16384

noncomputable section

/-! The table that the host makes of the moments, for the embedding. -/

namespace Cert.Emb

open Idealize.ShloMosaic Cert.GpeIdeal Cert.GpeIdeal.Gen

section
variable {F : FTy → Type} [FloatOps F]

/-- The sums per cloud, neighbour and coordinate. -/
def momA (st : FVec F S4x8x48 .f32) : FVec F S4x16x3 .f32 :=
  shapeCast S4x16x3 (shapeCast S4x48 (extractStridedSlice S4x1x48 ![0, 0, 0] st slices_S4x8x48_S4x1x48_0_0_0) shapeCasts_S4x1x48_S4x48) shapeCasts_S4x48_S4x16x3

/-- The sums of squares per cloud, neighbour and coordinate. -/
def momB (st : FVec F S4x8x48 .f32) : FVec F S4x16x3 .f32 :=
  shapeCast S4x16x3 (shapeCast S4x48 (extractStridedSlice S4x1x48 ![0, 1, 0] st slices_S4x8x48_S4x1x48_0_1_0) shapeCasts_S4x1x48_S4x48) shapeCasts_S4x48_S4x16x3

/-- The sum over clouds and coordinates. -/
def perNear (a : FVec F S4x16x3 .f32) : FVec F S16 .f32 :=
  Host.reduceAdd a (constant S_ .f32 0x00000000#32 : FVec F S_ .f32) reducesTo_S4x16x3_S16_d0_2 h_S_

/-- The deviation of each neighbour's offsets. -/
def dev (a q : FVec F S4x16x3 .f32) : FVec F S16 .f32 :=
  maximumf (broadcastInDim S16 ![] bcast_S_S16 (constant S_ .f32 0x3727C5AC#32 : FVec F S_ .f32))
    (Host.sqrt (maximumf (Host.divf (subf (perNear q) (Host.divf (mulf (perNear a) (perNear a))
      (broadcastInDim S16 ![] bcast_S_S16 (constant S_ .f32 0x47400000#32 : FVec F S_ .f32))))
      (broadcastInDim S16 ![] bcast_S_S16 (constant S_ .f32 0x473FFF00#32 : FVec F S_ .f32)))
      (broadcastInDim S16 ![] bcast_S_S16 (constant S_ .f32 0x00000000#32 : FVec F S_ .f32))))

/-- One over it. -/
def inv (d : FVec F S16 .f32) : FVec F S16 .f32 :=
  Host.divf (broadcastInDim S16 ![] bcast_S_S16 (constant S_ .f32 0x3F800000#32 : FVec F S_ .f32)) d

/-- The sum over the neighbours with weights. -/
def weigh (a : FVec F S4x16x3 .f32) (w : FVec F S16 .f32) : FVec F S4x3 .f32 :=
  Host.dotGeneral dot_S4x16x3_S16_S4x3_1_0_02_n_n_n none a w

/-- The deviations of the scaled offsets per cloud and coordinate. -/
def spread (a q : FVec F S4x16x3 .f32) (w : FVec F S16 .f32) : FVec F S4x3 .f32 :=
  Host.sqrt (maximumf (Host.divf (subf (weigh q (mulf w w)) (Host.divf (mulf (weigh a w) (weigh a w))
      (broadcastInDim S4x3 ![] bcast_S_S4x3 (constant S_ .f32 0x47800000#32 : FVec F S_ .f32))))
      (broadcastInDim S4x3 ![] bcast_S_S4x3 (constant S_ .f32 0x477FFF00#32 : FVec F S_ .f32)))
      (broadcastInDim S4x3 ![] bcast_S_S4x3 (constant S_ .f32 0x00000000#32 : FVec F S_ .f32)))

/-- Their mean. -/
def mean (s : FVec F S4x3 .f32) : FVec F S_ .f32 :=
  Host.divf (Host.reduceAdd s (constant S_ .f32 0x00000000#32 : FVec F S_ .f32) reducesTo_S4x3_S_d0_1 h_S_) (constant S_ .f32 0x41400000#32)

/-- One over the width of the bell. -/
def narrow (g : FVec F S_ .f32) : FVec F S_ .f32 :=
  Host.divf (constant S_ .f32 0x3F800000#32) (addf (mulf (constant S_ .f32 0x3E99999A#32) (addf (constant S_ .f32 0x3F800000#32) g)) (constant S_ .f32 0x358637BD#32))

/-- The share of the bell. -/
def share (g : FVec F S_ .f32) : FVec F S_ .f32 :=
  Host.divf (constant S_ .f32 0x3F800000#32) (addf (constant S_ .f32 0x3F800000#32)
    (Host.exp (Host.negf (mulf (subf g (constant S_ .f32 0x3DCCCCCD#32)) (constant S_ .f32 0x41200000#32)))))

/-- The table's first eight rows. -/
def scales (w : FVec F S16 .f32) (n : FVec F S_ .f32) : FVec F S8x128 .f32 :=
  shapeCast S8x128 (broadcastInDim S8x2x64 ![0, 1] bcast_S8x2_S8x2x64_0_1 (shapeCast S8x2 (mulf w (broadcastInDim S16 ![] bcast_S_S16 n)) shapeCasts_S16_S8x2)) shapeCasts_S8x2x64_S8x128

/-- The table's ninth row. -/
def centres (n : FVec F S_ .f32) : FVec F S1x128 .f32 :=
  mulf (broadcastInDim S1x128 ![1] bcast_S128_S1x128_1 (fun i => FloatOps.ofBits .f32 (lit0 (S128.rowMajor i)) : FVec F S128 .f32)) (broadcastInDim S1x128 ![] bcast_S_S1x128 n)

/-- The table's tenth row. -/
def shares (b : FVec F S_ .f32) : FVec F S1x128 .f32 := broadcastInDim S1x128 ![] bcast_S_S1x128 b

/-- The table's last six rows. -/
def masks : FVec F S6x128 .f32 := fun i => FloatOps.ofBits .f32 (lit1 (S6x128.rowMajor i))

/-- The table from its parts. -/
def stack (w : FVec F S16 .f32) (g : FVec F S_ .f32) : FVec F S16x128 .f32 :=
  concatenate S16x128 0 [⟨S8x128, scales w (narrow g)⟩, ⟨S1x128, centres (narrow g)⟩, ⟨S1x128, shares (share g)⟩, ⟨S6x128, masks⟩]
    concatenates_S8x128_S1x128_S1x128_S6x128_S16x128_d0

/-- The table from the moments. -/
def table (st : FVec F S4x8x48 .f32) : FVec F S16x128 .f32 :=
  stack (inv (dev (momA st) (momB st))) (mean (spread (momA st) (momB st) (inv (dev (momA st) (momB st)))))

end

variable (m : (ℓ : Loc nD τ sig) → Buf (Elt Ideal) ℓ) (c : Dev nD)

/-- The moments as the kernel finds them. -/
abbrev stat : FVec Ideal S4x8x48 .f32 := m ((c.tc : Thread nD τ).loc main_arg1)

/-- The kernel finds that table. -/
theorem tab_eq : V m c main_v53 = table (stat m c) := by
  after_reads_simp
  rfl

end Cert.Emb
-- ==== Proof.Figures.lean ====
module

public import proofs.«01_k».proof.Proof.Params
public import proofs.«01_k».proof.Proof.Nearest

@[expose] public section

set_option maxRecDepth 16384

noncomputable section

/-! The host's figures for the embedding read at one entry, in real numbers. -/

namespace Cert.Emb

open Idealize.ShloMosaic Cert.GpeIdeal Cert.GpeIdeal.Gen

theorem w_eps5 : Ideal.ofBits FTy.f32 0x3727C5AC#32 = ((2748779 / 274877906944 : ℝ) : EReal) := by
  simp [Ideal.ofBits, Ideal.ieee]; rw [← EReal.coe_mul]; norm_num
theorem w_49152 : Ideal.ofBits FTy.f32 0x47400000#32 = ((49152 : ℝ) : EReal) := by
  simp [Ideal.ofBits, Ideal.ieee]; rw [← EReal.coe_mul]; norm_num
theorem w_49151 : Ideal.ofBits FTy.f32 0x473FFF00#32 = ((49151 : ℝ) : EReal) := by
  simp [Ideal.ofBits, Ideal.ieee]; rw [← EReal.coe_mul]; norm_num
theorem w_65536 : Ideal.ofBits FTy.f32 0x47800000#32 = ((65536 : ℝ) : EReal) := by
  simp [Ideal.ofBits, Ideal.ieee]; rw [← EReal.coe_mul]; norm_num
theorem w_65535 : Ideal.ofBits FTy.f32 0x477FFF00#32 = ((65535 : ℝ) : EReal) := by
  simp [Ideal.ofBits, Ideal.ieee]; rw [← EReal.coe_mul]; norm_num
theorem w_12 : Ideal.ofBits FTy.f32 0x41400000#32 = ((12 : ℝ) : EReal) := by
  simp [Ideal.ofBits, Ideal.ieee]; rw [← EReal.coe_mul]; norm_num
theorem w_10 : Ideal.ofBits FTy.f32 0x41200000#32 = ((10 : ℝ) : EReal) := by
  simp [Ideal.ofBits, Ideal.ieee]; rw [← EReal.coe_mul]; norm_num
theorem w_sig : Ideal.ofBits FTy.f32 0x3E99999A#32 = ((5033165 / 16777216 : ℝ) : EReal) := by
  simp [Ideal.ofBits, Ideal.ieee]; rw [← EReal.coe_mul]; norm_num
theorem w_eps6 : Ideal.ofBits FTy.f32 0x358637BD#32 = ((8796093 / 8796093022208 : ℝ) : EReal) := by
  simp [Ideal.ofBits, Ideal.ieee]; rw [← EReal.coe_mul]; norm_num
theorem w_base : Ideal.ofBits FTy.f32 0x3DCCCCCD#32 = ((13421773 / 134217728 : ℝ) : EReal) := by
  simp [Ideal.ofBits, Ideal.ieee]; rw [← EReal.coe_mul]; norm_num

/-- A quotient of real numbers. -/
theorem div_real (a b : ℝ) (h : b ≠ 0) : Ideal.div (a : EReal) (b : EReal) = ((a / b : ℝ) : EReal) := by
  rw [Ideal.div_coe h, ← EReal.coe_mul]
  congr 1
  ring

/-- A root of a real number that is not negative. -/
theorem sqrt_real (a : ℝ) (h : 0 ≤ a) : Ideal.sqrt (a : EReal) = ((Real.sqrt a : ℝ) : EReal) := by
  rw [Ideal.sqrt_coe, if_neg (not_lt.2 h)]

theorem max_real (a b : ℝ) : max (a : EReal) (b : EReal) = ((max a b : ℝ) : EReal) :=
  (EReal.coe_strictMono.monotone.map_max).symm

theorem momA_at (st : FVec Ideal S4x8x48 .f32) (b : Fin 4) (k : Fin 16) (c : Fin 3) :
    momA st (ix3 b k c) = st (ix3 b 0 ⟨k.val * 3 + c.val, by omega⟩) := by
  pointwise [momA]

theorem momB_at (st : FVec Ideal S4x8x48 .f32) (b : Fin 4) (k : Fin 16) (c : Fin 3) :
    momB st (ix3 b k c) = st (ix3 b 1 ⟨k.val * 3 + c.val, by omega⟩) := by
  pointwise [momB]

theorem perNear_at (a : FVec Ideal S4x16x3 .f32) (k : Fin 16) :
    perNear a (ix1 k) = ∑ b : Fin 4, ∑ c : Fin 3, a (ix3 b k c) := by
  pointwise [perNear]
  unfold Ideal.hostReduceAdd
  rw [zero_add, ← Fintype.sum_prod_type']
  have hd : ∀ i : S4x16x3.Idx, reducesTo_S4x16x3_S16_d0_2.drop i = ix1 k ↔ i 1 = k := by
    intro i
    constructor
    · intro h
      exact congrFun h 0
    · intro h
      funext a
      fin_cases a
      exact h
  refine Finset.sum_bij' (fun i _ => (i 0, i 2)) (fun p _ => ix3 p.1 k p.2) (fun _ _ => Finset.mem_univ _)
    (fun p _ => Finset.mem_filter.2 ⟨Finset.mem_univ _, (hd _).2 rfl⟩) (fun i hi => ?_) (fun p _ => rfl) (fun i hi => ?_)
  · have := (hd i).1 (Finset.mem_filter.1 hi).2
    funext a
    fin_cases a
    · rfl
    · exact this.symm
    · rfl
  · have := (hd i).1 (Finset.mem_filter.1 hi).2
    congr 1
    funext a
    fin_cases a
    · rfl
    · exact this
    · rfl

/-- The deviation from a sum and a sum of squares, in real numbers. -/
def devR (s q : ℝ) : ℝ := max (2748779 / 274877906944) (Real.sqrt (max ((q - s * s / 49152) / 49151) 0))

theorem dev_at (a q : FVec Ideal S4x16x3 .f32) (k : Fin 16) (ar qr : ℝ) (ha : perNear a (ix1 k) = ((ar : ℝ) : EReal))
    (hq : perNear q (ix1 k) = ((qr : ℝ) : EReal)) : dev a q (ix1 k) = ((devR ar qr : ℝ) : EReal) := by
  pointwise [dev]
  rw [ha, hq, w_eps5, w_49152, w_49151, ← EReal.coe_mul, div_real _ _ (by norm_num), ← EReal.coe_sub, div_real _ _ (by norm_num),
    ← EReal.coe_zero, max_real, sqrt_real _ (le_max_right _ _), max_real]
  rfl

theorem devR_pos (s q : ℝ) : 0 < devR s q := lt_of_lt_of_le (by norm_num) (le_max_left _ _)

theorem inv_at (d : FVec Ideal S16 .f32) (k : Fin 16) (r : ℝ) (hr : r ≠ 0) (hd : d (ix1 k) = ((r : ℝ) : EReal)) :
    inv d (ix1 k) = ((1 / r : ℝ) : EReal) := by
  pointwise [inv]
  rw [hd, ← EReal.coe_one, div_real _ _ hr]

theorem weigh_at (a : FVec Ideal S4x16x3 .f32) (w : FVec Ideal S16 .f32) (b : Fin 4) (c : Fin 3) :
    weigh a w (ix2 b c) = ∑ k : Fin 16, a (ix3 b k c) * w (ix1 k) := by
  pointwise [weigh]

/-- The deviation of the scaled offsets from a sum and a sum of squares, in real numbers. -/
def sprR (s q : ℝ) : ℝ := Real.sqrt (max ((q - s * s / 65536) / 65535) 0)

theorem spread_at (a q : FVec Ideal S4x16x3 .f32) (w : FVec Ideal S16 .f32) (b : Fin 4) (c : Fin 3) (ar qr : ℝ)
    (ha : weigh a w (ix2 b c) = ((ar : ℝ) : EReal)) (hq : weigh q (mulf w w) (ix2 b c) = ((qr : ℝ) : EReal)) :
    spread a q w (ix2 b c) = ((sprR ar qr : ℝ) : EReal) := by
  pointwise [spread]
  rw [ha, hq, w_65536, w_65535, ← EReal.coe_mul, div_real _ _ (by norm_num), ← EReal.coe_sub, div_real _ _ (by norm_num),
    ← EReal.coe_zero, max_real, sqrt_real _ (le_max_right _ _)]
  rfl

theorem mean_at (s : FVec Ideal S4x3 .f32) (r : Fin 4 → Fin 3 → ℝ) (hs : ∀ b c, s (ix2 b c) = ((r b c : ℝ) : EReal)) :
    mean s ix0 = (((∑ b, ∑ c, r b c) / 12 : ℝ) : EReal) := by
  pointwise [mean]
  simp only [hs, ← Near.coe_sum', w_12]
  rw [div_real _ _ (by norm_num)]

/-- The width of the bell, in real numbers. -/
def widthR (g : ℝ) : ℝ := 5033165 / 16777216 * (1 + g) + 8796093 / 8796093022208

theorem narrow_at (g : FVec Ideal S_ .f32) (r : ℝ) (hg : g ix0 = ((r : ℝ) : EReal)) (h : widthR r ≠ 0) :
    narrow g ix0 = ((1 / widthR r : ℝ) : EReal) := by
  pointwise [narrow]
  rw [hg, w_sig, w_eps6, ← EReal.coe_one, ← EReal.coe_add, ← EReal.coe_mul, ← EReal.coe_add]
  exact div_real 1 (widthR r) h

/-- The share of the bell, in real numbers. -/
def shareR (g : ℝ) : ℝ := 1 / (1 + Real.exp (-((g - 13421773 / 134217728) * 10)))

theorem share_at (g : FVec Ideal S_ .f32) (r : ℝ) (hg : g ix0 = ((r : ℝ) : EReal)) :
    share g ix0 = ((shareR r : ℝ) : EReal) := by
  pointwise [share]
  rw [hg, w_base, w_10, ← EReal.coe_sub, ← EReal.coe_mul, ← EReal.coe_neg, Ideal.exp_coe, ← EReal.coe_one, ← EReal.coe_add,
    div_real _ _ (by positivity)]
  rfl

theorem scales_at (w : FVec Ideal S16 .f32) (n : FVec Ideal S_ .f32) (p : Fin 8) (l : Fin 128) :
    scales w n (ix2 p l) = w (ix1 ⟨p.val * 2 + l.val / 64, by omega⟩) * n ix0 := by
  pointwise [scales]

theorem centres_at (n : FVec Ideal S_ .f32) (z : Fin 1) (l : Fin 128) :
    centres n (ix2 z l) = Ideal.ofBits .f32 (lit0 l) * n ix0 := by
  unfold centres
  generalize hf : (fun i => FloatOps.ofBits .f32 (lit0 (S128.rowMajor i)) : FVec Ideal S128 .f32) = f
  pointwise []
  rw [← hf]
  have : S128.rowMajor (ix1 l) = l := Fin.ext (Shape.rowMajor_val_one _)
  show Ideal.ofBits .f32 (lit0 (S128.rowMajor (ix1 l))) * n ix0 = _
  rw [this]

theorem shares_at (n : FVec Ideal S_ .f32) (z : Fin 1) (l : Fin 128) :
    shares n (ix2 z l) = n ix0 := by
  pointwise [shares]

theorem masks_at (s : Fin 6) (l : Fin 128) :
    (masks (ix2 s l) : Ideal .f32) = Ideal.ofBits .f32 (lit1 ⟨s.val * 128 + l.val, by omega⟩) := by
  unfold masks
  have : S6x128.rowMajor (ix2 s l) = (⟨s.val * 128 + l.val, by omega⟩ : Fin 768) := Fin.ext (Shape.rowMajor_val_two _)
  rw [this]
  rfl

theorem stack_scales (w : FVec Ideal S16 .f32) (g : FVec Ideal S_ .f32) (p : Fin 8) (l : Fin 128) :
    stack w g (ix2 ⟨p.val, by omega⟩ l) = scales w (narrow g) (ix2 p l) := by
  refine concatenate_apply_piece (t := S16x128) 0 _ _ _ 0 (by simp) S8x128 _ rfl rfl 0 rfl (ix2 p l) ?_ ?_
  · intro a ha
    fin_cases a
    · exact absurd rfl ha
    · rfl
  · show 0 + p.val = p.val
    omega

theorem stack_centres (w : FVec Ideal S16 .f32) (g : FVec Ideal S_ .f32) (l : Fin 128) :
    stack w g (ix2 8 l) = centres (narrow g) (ix2 0 l) := by
  refine concatenate_apply_piece (t := S16x128) 0 _ _ _ 1 (by simp) S1x128 _ rfl rfl 8 rfl (ix2 0 l) ?_ ?_
  · intro a ha
    fin_cases a
    · exact absurd rfl ha
    · rfl
  · rfl

theorem stack_shares (w : FVec Ideal S16 .f32) (g : FVec Ideal S_ .f32) (l : Fin 128) :
    stack w g (ix2 9 l) = shares (share g) (ix2 0 l) := by
  refine concatenate_apply_piece (t := S16x128) 0 _ _ _ 2 (by simp) S1x128 _ rfl rfl 9 rfl (ix2 0 l) ?_ ?_
  · intro a ha
    fin_cases a
    · exact absurd rfl ha
    · rfl
  · rfl

theorem stack_masks (w : FVec Ideal S16 .f32) (g : FVec Ideal S_ .f32) (s : Fin 6) (l : Fin 128) :
    stack w g (ix2 ⟨10 + s.val, by omega⟩ l) = masks (ix2 s l) := by
  refine concatenate_apply_piece (t := S16x128) 0 _ _ _ 3 (by simp) S6x128 _ rfl rfl 10 rfl (ix2 s l) ?_ ?_
  · intro a ha
    fin_cases a
    · exact absurd rfl ha
    · rfl
  · rfl

end Cert.Emb
-- ==== Proof.Spread.lean ====
module

public import proofs.«01_k».proof.Proof.Figures
public import proofs.«01_k».proof.Post_near
public import proofs.«01_k».proof.Pre_summed

@[expose] public section

set_option maxRecDepth 16384

noncomputable section

/-! The deviations the reference takes, read at one entry, in real numbers. -/

namespace Cert.Emb

open Idealize.ShloMosaic Cert.Post_near Cert.Post_near.Facts

variable [Cert.Post_near.Facts]

omit [Cert.Post_near.Facts] in
/-- The squared deviations from the mean, from the sum and the sum of squares. -/
theorem var_ident {ι : Type} [Fintype ι] (f : ι → ℝ) (N : ℝ) (h : (Fintype.card ι : ℝ) = N) (hN : N ≠ 0) :
    ∑ i, (f i - (∑ j, f j) / N) * (f i - (∑ j, f j) / N) = ∑ i, f i * f i - (∑ i, f i) * (∑ i, f i) / N := by
  have e : ∀ i, (f i - (∑ j, f j) / N) * (f i - (∑ j, f j) / N)
      = f i * f i - 2 * ((∑ j, f j) / N) * f i + (∑ j, f j) / N * ((∑ j, f j) / N) := fun i => by ring
  simp only [e]
  rw [Finset.sum_add_distrib, Finset.sum_sub_distrib, ← Finset.mul_sum, Finset.sum_const, Finset.card_univ, nsmul_eq_mul, h]
  field_simp
  ring

omit [Cert.Post_near.Facts] in
theorem var_nonneg {ι : Type} [Fintype ι] (f : ι → ℝ) (N : ℝ) (h : (Fintype.card ι : ℝ) = N) (hN : N ≠ 0) :
    0 ≤ ∑ i, f i * f i - (∑ i, f i) * (∑ i, f i) / N := by
  rw [← var_ident f N h hN]
  exact Finset.sum_nonneg fun i _ => mul_self_nonneg _

theorem sum_near (x : FVec Ideal S4x4096x16x3 .f32) (k : Fin 16) :
    Ideal.hostReduceAdd reducesTo_S4x4096x16x3_S16_d0_1_3 x 0 (ix1 k)
      = ∑ p : Fin 4 × Fin 4096 × Fin 3, x (ix4 p.1 p.2.1 k p.2.2) := by
  unfold Ideal.hostReduceAdd
  rw [zero_add]
  have hd : ∀ i : S4x4096x16x3.Idx, (reducesTo_S4x4096x16x3_S16_d0_1_3).drop i = ix1 k ↔ i 2 = k := by
    intro i
    constructor
    · intro h
      exact congrFun h 0
    · intro h
      funext a
      fin_cases a
      exact h
  refine Finset.sum_bij' (fun i _ => ((i 0, i 1, i 3) : Fin 4 × Fin 4096 × Fin 3)) (fun p _ => ix4 p.1 p.2.1 k p.2.2)
    (fun i _ => @Finset.mem_univ (Fin 4 × Fin 4096 × Fin 3) _ (i 0, i 1, i 3))
    (fun p _ => Finset.mem_filter.2 ⟨@Finset.mem_univ S4x4096x16x3.Idx _ _, (hd _).2 rfl⟩) (fun i hi => ?_)
    (fun p _ => ?_) (fun i hi => ?_)
  · have := (hd i).1 (Finset.mem_filter.1 hi).2
    funext a
    fin_cases a
    · rfl
    · rfl
    · exact this.symm
    · rfl
  · obtain ⟨b, n, c⟩ := p
    rfl
  · have := (hd i).1 (Finset.mem_filter.1 hi).2
    congr 1
    funext a
    fin_cases a
    · rfl
    · rfl
    · exact this
    · rfl

omit [Cert.Post_near.Facts] in
theorem w_one_int : (FloatOps.sitofp FTy.f32 1#32 : Ideal .f32) = ((1 : ℝ) : EReal) := by
  show (((1#32 : BitVec 32).toInt : ℝ) : EReal) = _
  norm_num

/-- The deviation over all points, and its lower bound, of entries that are real. -/
theorem std_at (x : FVec Ideal S4x4096x16x3 .f32) (k : Fin 16) (X : Fin 4 × Fin 4096 × Fin 3 → ℝ)
    (hx : ∀ p, x (ix4 p.1 p.2.1 k p.2.2) = ((X p : ℝ) : EReal)) :
    fn_clip (fn_std x (constantI S_ 32 1#32)) (constant S_ .f32 0x3727C5AC#32) (ix4 0 0 k 0)
      = ((devR (∑ p, X p) (∑ p, X p * X p) : ℝ) : EReal) := by
  have hc : (Fintype.card (Fin 4 × Fin 4096 × Fin 3) : ℝ) = 49152 := by
    simp only [Fintype.card_prod, Fintype.card_fin]
    norm_num
  pointwise [fn_clip, fn_std, fn_var, fn_where]
  rw [sum_near]
  have e : ∀ p : Fin 4 × Fin 4096 × Fin 3, mulf
              (subf x
                (broadcastInDim S4x4096x16x3 ![0, 1, 2, 3] bcast_S1x1x16x1_S4x4096x16x3_0_1_2_3
                  (Host.divf (broadcastInDim S1x1x16x1 ![2] bcast_S16_S1x1x16x1_2 (Host.reduceAdd x (constant S_ FTy.f32 0#32) reducesTo_S4x4096x16x3_S16_d0_1_3 h_S_))
                    (broadcastInDim S1x1x16x1 ![] bcast_S_S1x1x16x1 (constant S_ FTy.f32 1195376640#32)))))
              (subf x
                (broadcastInDim S4x4096x16x3 ![0, 1, 2, 3] bcast_S1x1x16x1_S4x4096x16x3_0_1_2_3
                  (Host.divf (broadcastInDim S1x1x16x1 ![2] bcast_S16_S1x1x16x1_2 (Host.reduceAdd x (constant S_ FTy.f32 0#32) reducesTo_S4x4096x16x3_S16_d0_1_3 h_S_))
                    (broadcastInDim S1x1x16x1 ![] bcast_S_S1x1x16x1 (constant S_ FTy.f32 1195376640#32)))))
              (ix4 p.1 p.2.1 k p.2.2) = (((X p - (∑ j, X j) / 49152) * (X p - (∑ j, X j) / 49152) : ℝ) : EReal) := by
    intro p
    pointwise []
    rw [sum_near, hx p]
    simp only [hx]
    rw [← Near.coe_sum', w_49152, div_real _ _ (by norm_num), ← EReal.coe_sub, ← EReal.coe_mul]
  rw [Finset.sum_congr rfl fun p _ => e p, ← Near.coe_sum', var_ident X 49152 hc (by norm_num), w_49152, w_one_int, ← EReal.coe_sub,
    div_real _ _ (by norm_num), if_pos (by rw [← EReal.coe_zero, EReal.coe_lt_coe_iff]; norm_num)]
  have h0 : 0 ≤ ((∑ p, X p * X p) - (∑ p, X p) * (∑ p, X p) / 49152) / (49152 - 1) :=
    div_nonneg (var_nonneg X 49152 hc (by norm_num)) (by norm_num)
  rw [sqrt_real _ h0]
  show max (Ideal.ofBits FTy.f32 0x3727C5AC#32) _ = _
  rw [w_eps5, max_real]
  unfold devR
  rw [max_eq_left (b := (0 : ℝ)) (by norm_num at h0 ⊢; exact h0)]
  norm_num

/-- The deviation over the points of one batch, of entries that are real. -/
theorem std1_at (x : FVec Ideal S4x65536x3 .f32) (b : Fin 4) (c : Fin 3) (X : Fin 65536 → ℝ)
    (hx : ∀ p, x (ix3 b p c) = ((X p : ℝ) : EReal)) :
    fn_std_0 x (constantI S_ 32 1#32) (ix2 b c) = ((sprR (∑ p, X p) (∑ p, X p * X p) : ℝ) : EReal) := by
  have hc : (Fintype.card (Fin 65536) : ℝ) = 65536 := by
    simp only [Fintype.card_fin]
    norm_num
  pointwise [fn_std_0, fn_var_1, fn_where_2]
  simp only [hx]
  rw [← Near.coe_sum', w_65536, div_real _ _ (by norm_num)]
  simp only [← EReal.coe_sub, ← EReal.coe_mul]
  rw [← Near.coe_sum', var_ident X 65536 hc (by norm_num), w_one_int, ← EReal.coe_sub,
    div_real _ _ (by norm_num), if_pos (by rw [← EReal.coe_zero, EReal.coe_lt_coe_iff]; norm_num)]
  have h0 : 0 ≤ ((∑ p, X p * X p) - (∑ p, X p) * (∑ p, X p) / 65536) / (65536 - 1) :=
    div_nonneg (var_nonneg X 65536 hc (by norm_num)) (by norm_num)
  rw [sqrt_real _ h0]
  unfold sprR
  rw [max_eq_left (b := (0 : ℝ)) (by norm_num at h0 ⊢; exact h0)]
  norm_num

end Cert.Emb
-- ==== Proof.Given.lean ====
module

public import proofs.«01_k».proof.Proof.Spread
public import Idealize.ShloMosaic.Lib.ReduceAll

@[expose] public section

set_option maxRecDepth 16384

noncomputable section

/-! What the precondition gives: real offsets, their moments, and a bound on every offset in deviations. -/

namespace Cert.Emb

open Idealize.ShloMosaic

/-- The column of neighbour `k`, coordinate `c`. -/
def slot (k : Fin 16) (c : Fin 3) : Fin 48 := ⟨k.val * 3 + c.val, by omega⟩

/-- The deviation of neighbour `k`'s offsets. -/
def kap (X : Fin 4 → Fin 4096 → Fin 48 → ℝ) (k : Fin 16) : ℝ :=
  devR (∑ p : Fin 4 × Fin 4096 × Fin 3, X p.1 p.2.1 (slot k p.2.2))
    (∑ p : Fin 4 × Fin 4096 × Fin 3, X p.1 p.2.1 (slot k p.2.2) * X p.1 p.2.1 (slot k p.2.2))

theorem kap_pos (X : Fin 4 → Fin 4096 → Fin 48 → ℝ) (k : Fin 16) : 0 < kap X k := devR_pos _ _

theorem le_at {s : Shape} (x y : FVec Ideal s .f32) (i : s.Idx) (h : cmpf .ole x y i = 1#1) : (x i : EReal) ≤ y i := by
  have h3 : BitVec.ofBool (decide ((x i : EReal) ≤ y i)) = 1#1 := h
  by_contra hc
  rw [decide_eq_false hc] at h3
  exact absurd h3 (by decide)

theorem at_le {s : Shape} (x y : FVec Ideal s .f32) (i : s.Idx) (h : (x i : EReal) ≤ y i) : cmpf .ole x y i = 1#1 := by
  show BitVec.ofBool (decide ((x i : EReal) ≤ y i)) = 1#1
  rw [decide_eq_true h]
  rfl

theorem lt_at {s : Shape} (x y : FVec Ideal s .f32) (i : s.Idx) (h : cmpf .olt x y i = 1#1) : (x i : EReal) < y i := by
  have h3 : BitVec.ofBool (decide ((x i : EReal) < y i)) = 1#1 := h
  by_contra hc
  rw [decide_eq_false hc] at h3
  exact absurd h3 (by decide)

theorem eq_at {s : Shape} (x y : FVec Ideal s .f32) (i : s.Idx) (h : cmpf .oeq x y i = 1#1) : x i = y i := by
  have h3 : BitVec.ofBool (decide ((x i : EReal) = y i)) = 1#1 := h
  by_contra hc
  rw [decide_eq_false hc] at h3
  exact absurd h3 (by decide)

/-- An extended real of magnitude below a real is real. -/
theorem real_of_lt (y : EReal) (B : ℝ) (h : max y (-y) < (B : EReal)) : ∃ r : ℝ, y = (r : EReal) := by
  induction y using EReal.rec with
  | bot => simp at h
  | top => simp at h
  | coe r => exact ⟨r, rfl⟩

/-- The sums over all points, read as the precondition takes them. -/
theorem given [Cert.Post_near.Facts] [Cert.Pre_summed.Facts] (rel : FVec Ideal Cert.Pre_summed.S4x4096x48 .f32)
    (st : FVec Ideal Cert.Pre_summed.S4x8x48 .f32) (h : Cert.Pre_summed.fn rel st = fun _ => 1#1) :
    ∃ X : Fin 4 → Fin 4096 → Fin 48 → ℝ, (∀ b n q, rel (ix3 b n q) = ((X b n q : ℝ) : EReal))
      ∧ (∀ b q, st (ix3 b 0 q) = ((∑ n, X b n q : ℝ) : EReal))
      ∧ (∀ b q, st (ix3 b 1 q) = ((∑ n, X b n q * X b n q : ℝ) : EReal))
      ∧ ∀ b n k c, |X b n (slot k c)| ≤ 4096 * kap X k := by
  have h1 := congrFun h ix0
  dsimp only [Cert.Pre_summed.fn, Cert.Pre_summed.fn_part1] at h1
  obtain ⟨h2, hD⟩ := IntOp.andi_eq_one.1 h1
  obtain ⟨h3, hC⟩ := IntOp.andi_eq_one.1 h2
  obtain ⟨hA, hB⟩ := IntOp.andi_eq_one.1 h3
  replace hA := fun i => lt_at _ _ i (Host.reduce_andi_all _ _ _ _ ix0 hA i)
  replace hB := fun i => eq_at _ _ i (Host.reduce_andi_all _ _ _ _ ix0 hB i)
  replace hC := fun i => eq_at _ _ i (Host.reduce_andi_all _ _ _ _ ix0 hC i)
  replace hD := fun i => le_at _ _ i (Host.reduce_andi_all _ _ _ _ ix0 hD i)
  have hr : ∀ b n q, ∃ r : ℝ, rel (ix3 b n q) = (r : EReal) := fun b n q =>
    real_of_lt _ (2 ^ 60) (by
      have := hA (ix3 b n q)
      have hb : Ideal.ofBits .f32 0x5D800000#32 = ((2 ^ 60 : ℝ) : EReal) := by
        simp [Ideal.ofBits, Ideal.ieee]
        norm_cast
      rw [← hb]
      exact this)
  choose X hX using hr
  refine ⟨X, hX, fun b q => ?_, fun b q => ?_, fun b n k c => ?_⟩
  · have := hB (ix2 b q)
    pointwise [] at this
    rw [this]
    simp only [hX]
    rw [← Near.coe_sum']
  · have := hC (ix2 b q)
    pointwise [] at this
    rw [this]
    simp only [hX, ← EReal.coe_mul]
    rw [← Near.coe_sum']
  · have := hD (ix4 b n k c)
    have e5 : Cert.Pre_summed.fn_clip (Cert.Pre_summed.fn_std (shapeCast Cert.Pre_summed.S4x4096x16x3 rel
          Cert.Pre_summed.Facts.shapeCasts_S4x4096x48_S4x4096x16x3) (constantI Cert.Pre_summed.S_ 32 1#32))
          (constant Cert.Pre_summed.S_ .f32 0x3727C5AC#32) (ix4 0 0 k 0) = ((kap X k : ℝ) : EReal) := by
      refine Eq.trans ?_ (std_at (shapeCast Cert.Post_near.S4x4096x16x3 rel Cert.Post_near.Facts.shapeCasts_S4x4096x48_S4x4096x16x3) k
        (fun p => X p.1 p.2.1 (slot k p.2.2)) (fun p => ?_))
      · rfl
      · rw [← hX]
        pointwise []
        rfl
    pointwise [] at this
    have hs : rel (ix3 b n ⟨k.val * 3 + c.val, by omega⟩) = ((X b n (slot k c) : ℝ) : EReal) := hX b n (slot k c)
    have hw : Ideal.ofBits FTy.f32 0x45800000#32 = ((4096 : ℝ) : EReal) := by
      simp [Ideal.ofBits, Ideal.ieee]
      rw [← EReal.coe_mul]
      norm_num
    rw [e5, hs, hw, ← EReal.coe_mul] at this
    replace this : max ((X b n (slot k c) : ℝ) : EReal) (-((X b n (slot k c) : ℝ) : EReal)) ≤ ((4096 * kap X k : ℝ) : EReal) := this
    rw [← EReal.coe_neg, max_real, EReal.coe_le_coe_iff] at this
    exact this

end Cert.Emb
-- ==== Proof.Tables.lean ====
module

public import proofs.«01_k».proof.Proof.Given
public import proofs.«01_k».proof.Proof.Waves
public import proofs.«01_k».proof.Proof.Tally

@[expose] public section

set_option maxRecDepth 16384

noncomputable section

/-! The kernel's table of figures in real numbers, from the moments of the offsets. -/

namespace Cert.Emb

open Idealize.ShloMosaic Cert.GpeIdeal Cert.GpeIdeal.Gen

/-- An offset in its neighbour's deviations. -/
def nrm (X : Fin 4 → Fin 4096 → Fin 48 → ℝ) (b : Fin 4) (n : Fin 4096) (k : Fin 16) (c : Fin 3) : ℝ := X b n (slot k c) / kap X k

/-- A batch's offsets along one coordinate, point after point. -/
def flat (X : Fin 4 → Fin 4096 → Fin 48 → ℝ) (b : Fin 4) (c : Fin 3) (m : Fin 65536) : ℝ :=
  nrm X b ⟨m.val / 16, by omega⟩ ⟨m.val % 16, by omega⟩ c

/-- The deviation of a batch along one coordinate. -/
def spr (X : Fin 4 → Fin 4096 → Fin 48 → ℝ) (b : Fin 4) (c : Fin 3) : ℝ :=
  sprR (∑ m, flat X b c m) (∑ m, flat X b c m * flat X b c m)

/-- The mean deviation. -/
def glob (X : Fin 4 → Fin 4096 → Fin 48 → ℝ) : ℝ := (∑ b, ∑ c, spr X b c) / 12

theorem glob_nonneg (X : Fin 4 → Fin 4096 → Fin 48 → ℝ) : 0 ≤ glob X :=
  div_nonneg (Finset.sum_nonneg fun _ _ => Finset.sum_nonneg fun _ _ => Real.sqrt_nonneg _) (by norm_num)

theorem width_pos (X : Fin 4 → Fin 4096 → Fin 48 → ℝ) : 5033165 / 16777216 < widthR (glob X) := by
  have := glob_nonneg X
  unfold widthR
  linarith [mul_nonneg (by norm_num : (0 : ℝ) ≤ 5033165 / 16777216) this]

/-- A sum over points and neighbours, one after the other. -/
theorem sum_flat (f : Fin 4096 → Fin 16 → ℝ) :
    ∑ m : Fin 65536, f ⟨m.val / 16, by omega⟩ ⟨m.val % 16, by omega⟩ = ∑ k, ∑ n, f n k := by
  rw [Finset.sum_comm, ← Fintype.sum_prod_type']
  refine Finset.sum_bij' (fun m _ => ((⟨m.val / 16, by omega⟩, ⟨m.val % 16, by omega⟩) : Fin 4096 × Fin 16))
    (fun p _ => (⟨p.1.val * 16 + p.2.val, by omega⟩ : Fin 65536)) (fun m _ => @Finset.mem_univ (Fin 4096 × Fin 16) _ _)
    (fun p _ => @Finset.mem_univ (Fin 65536) _ _) (fun m _ => ?_) (fun p _ => ?_) (fun m _ => rfl)
  · ext
    show m.val / 16 * 16 + m.val % 16 = m.val
    omega
  · obtain ⟨n, k⟩ := p
    refine Prod.ext (Fin.ext ?_) (Fin.ext ?_)
    · show (n.val * 16 + k.val) / 16 = n.val
      omega
    · show (n.val * 16 + k.val) % 16 = k.val
      omega

section
variable (st : FVec Ideal S4x8x48 .f32) (X : Fin 4 → Fin 4096 → Fin 48 → ℝ)
  (h1 : ∀ b q, st (ix3 b 0 q) = ((∑ n, X b n q : ℝ) : EReal))
  (h2 : ∀ b q, st (ix3 b 1 q) = ((∑ n, X b n q * X b n q : ℝ) : EReal))

include h1 in
theorem momA_real (b : Fin 4) (k : Fin 16) (c : Fin 3) : momA st (ix3 b k c) = ((∑ n, X b n (slot k c) : ℝ) : EReal) := by
  rw [momA_at]
  exact h1 b (slot k c)

include h2 in
theorem momB_real (b : Fin 4) (k : Fin 16) (c : Fin 3) :
    momB st (ix3 b k c) = ((∑ n, X b n (slot k c) * X b n (slot k c) : ℝ) : EReal) := by
  rw [momB_at]
  exact h2 b (slot k c)

theorem sum_swap (f : Fin 4 → Fin 4096 → Fin 3 → ℝ) :
    ∑ p : Fin 4 × Fin 4096 × Fin 3, f p.1 p.2.1 p.2.2 = ∑ b, ∑ c, ∑ n, f b n c := by
  rw [Fintype.sum_prod_type]
  refine Finset.sum_congr rfl fun b _ => ?_
  rw [Fintype.sum_prod_type, Finset.sum_comm]

include h1 h2 in
/-- The kernel's deviation of a neighbour is the reference's. -/
theorem dev_real (k : Fin 16) : dev (momA st) (momB st) (ix1 k) = ((kap X k : ℝ) : EReal) := by
  refine dev_at _ _ k _ _ ?_ ?_
  · rw [perNear_at]
    simp only [momA_real st X h1]
    simp only [← Near.coe_sum']
    rw [← sum_swap fun b n c => X b n (slot k c)]
  · rw [perNear_at]
    simp only [momB_real st X h2]
    simp only [← Near.coe_sum']
    rw [← sum_swap fun b n c => X b n (slot k c) * X b n (slot k c)]

include h1 h2 in
theorem inv_real (k : Fin 16) : inv (dev (momA st) (momB st)) (ix1 k) = ((1 / kap X k : ℝ) : EReal) :=
  inv_at _ k _ (kap_pos X k).ne' (dev_real st X h1 h2 k)

include h1 h2 in
/-- The kernel's deviation of a batch along a coordinate is the reference's. -/
theorem spread_real (b : Fin 4) (c : Fin 3) :
    spread (momA st) (momB st) (inv (dev (momA st) (momB st))) (ix2 b c) = ((spr X b c : ℝ) : EReal) := by
  refine spread_at _ _ _ b c _ _ ?_ ?_
  · rw [weigh_at]
    simp only [momA_real st X h1, inv_real st X h1 h2, ← EReal.coe_mul]
    rw [← Near.coe_sum']
    refine congrArg _ ?_
    refine Eq.trans ?_ (sum_flat fun n k => nrm X b n k c).symm
    refine Finset.sum_congr rfl fun k _ => ?_
    rw [Finset.sum_mul]
    refine Finset.sum_congr rfl fun n _ => ?_
    unfold nrm
    ring
  · rw [weigh_at]
    have e : ∀ k, mulf (inv (dev (momA st) (momB st))) (inv (dev (momA st) (momB st))) (ix1 k)
        = ((1 / kap X k * (1 / kap X k) : ℝ) : EReal) := by
      intro k
      rw [EReal.coe_mul, ← inv_real st X h1 h2 k]
      rfl
    simp only [momB_real st X h2, e, ← EReal.coe_mul]
    rw [← Near.coe_sum']
    refine congrArg _ ?_
    refine Eq.trans ?_ (sum_flat fun n k => nrm X b n k c * nrm X b n k c).symm
    refine Finset.sum_congr rfl fun k _ => ?_
    rw [Finset.sum_mul]
    refine Finset.sum_congr rfl fun n _ => ?_
    unfold nrm
    ring

include h1 h2 in
theorem glob_real : mean (spread (momA st) (momB st) (inv (dev (momA st) (momB st)))) ix0 = ((glob X : ℝ) : EReal) :=
  mean_at _ _ fun b c => spread_real st X h1 h2 b c

end

end Cert.Emb
-- ==== Proof.Lanes.lean ====
module

public import proofs.«01_k».proof.Proof.Tables
public import proofs.«01_k».proof.Proof.Agree

@[expose] public section

set_option maxRecDepth 16384

noncomputable section

/-! The kernel's result in real numbers: which neighbour, coordinate and feature each lane holds, and the sums. -/

namespace Cert.Emb

open Idealize.ShloMosaic Cert.GpeIdeal Cert.GpeIdeal.Gen

/-- Where result `j` lies among the three coordinates' features. -/
def pos (j : Fin 64) : ℕ := (Cert.Post_near.lit1 j).toNat

theorem pos_lt (j : Fin 64) : pos j < 66 :=
  (by decide +kernel : ∀ j : Fin 64, (Cert.Post_near.lit1 j).toNat < 66) j

/-- The coordinate of result `j`. -/
def co (j : Fin 64) : Fin 3 := ⟨pos j / 22, by have := pos_lt j; omega⟩

/-- The feature of result `j`. -/
def fi (j : Fin 64) : Fin 22 := ⟨pos j % 22, by omega⟩

/-- The result a lane works for. -/
def of (l : Fin 128) : Fin 64 := ⟨l.val % 64, by omega⟩

/-- The mask row of a lane. -/
def off (l : Fin 128) : Fin 6 := ⟨l.val / 64 * 3 + (co (of l)).val, by have := (co (of l)).isLt; omega⟩

theorem lane_feat (l : Fin 128) : lit0 l = Cert.Post_near.lit0 (fi (of l)) :=
  (by decide +kernel : ∀ l : Fin 128, lit0 l = Cert.Post_near.lit0 (fi (of l))) l

theorem lane_mask (s : Fin 6) (l : Fin 128) :
    lit1 ⟨s.val * 128 + l.val, by omega⟩ = if s = off l then 0x3F800000#32 else 0x00000000#32 :=
  (by decide +kernel : ∀ (s : Fin 6) (l : Fin 128), lit1 ⟨s.val * 128 + l.val, by omega⟩ = if s = off l then 0x3F800000#32 else 0x00000000#32) s l

theorem feat_real (f : Fin 22) : ∃ r : ℝ, Ideal.ofBits .f32 (Cert.Post_near.lit0 f) = (r : EReal) ∧ |r| ≤ 1 := by
  fin_cases f <;>
  · simp only [Cert.Post_near.lit0, Ideal.ofBits, Ideal.ieee]
    simp
    simp only [← EReal.coe_mul, ← EReal.coe_neg]
    refine ⟨_, rfl, ?_⟩
    rw [abs_le]
    constructor <;> norm_num

/-- A feature's value. -/
def feat (f : Fin 22) : ℝ := (feat_real f).choose

theorem feat_eq (f : Fin 22) : Ideal.ofBits .f32 (Cert.Post_near.lit0 f) = ((feat f : ℝ) : EReal) := (feat_real f).choose_spec.1

theorem feat_le (f : Fin 22) : |feat f| ≤ 1 := (feat_real f).choose_spec.2

/-- The angle of neighbour `k` for result `j`, in widths of the bell. -/
def ang (X : Fin 4 → Fin 4096 → Fin 48 → ℝ) (b : Fin 4) (n : Fin 4096) (k : Fin 16) (j : Fin 64) : ℝ :=
  (nrm X b n k (co j) - feat (fi j)) / widthR (glob X)

theorem nrm_le (X : Fin 4 → Fin 4096 → Fin 48 → ℝ) (h : ∀ b n k c, |X b n (slot k c)| ≤ 4096 * kap X k)
    (b : Fin 4) (n : Fin 4096) (k : Fin 16) (c : Fin 3) : |nrm X b n k c| ≤ 4096 := by
  unfold nrm
  rw [abs_div, abs_of_pos (kap_pos X k), div_le_iff₀ (kap_pos X k)]
  exact h b n k c

/-- The angles stay where the kernel's cosine is good. -/
theorem ang_le (X : Fin 4 → Fin 4096 → Fin 48 → ℝ) (h : ∀ b n k c, |X b n (slot k c)| ≤ 4096 * kap X k)
    (b : Fin 4) (n : Fin 4096) (k : Fin 16) (j : Fin 64) : |ang X b n k j| ≤ 14000 := by
  have hw := width_pos X
  have hw0 : 0 < widthR (glob X) := lt_trans (by norm_num) hw
  unfold ang
  rw [abs_div, abs_of_pos hw0, div_le_iff₀ hw0]
  have h1 := abs_sub (nrm X b n k (co j)) (feat (fi j))
  have h2 := nrm_le X h b n k (co j)
  have h3 := feat_le (fi j)
  linarith

/-- The greatest of a point's embeddings as the kernel forms it, for result `j`. -/
def hat (X : Fin 4 → Fin 4096 → Fin 48 → ℝ) (b : Fin 4) (n : Fin 4096) (j : Fin 64) : ℝ :=
  max (bestR (fun p => embR (shareR (glob X)) (ang X b n ⟨(p * 2) % 16, by omega⟩ j)) 8)
    (bestR (fun p => embR (shareR (glob X)) (ang X b n ⟨(p * 2 + 1) % 16, by omega⟩ j)) 8)

section
variable (st : FVec Ideal S4x8x48 .f32) (X : Fin 4 → Fin 4096 → Fin 48 → ℝ)
  (h1 : ∀ b q, st (ix3 b 0 q) = ((∑ n, X b n q : ℝ) : EReal))
  (h2 : ∀ b q, st (ix3 b 1 q) = ((∑ n, X b n q * X b n q : ℝ) : EReal))

theorem width_ne : widthR (glob X) ≠ 0 := (lt_trans (by norm_num) (width_pos X)).ne'

include h1 h2 in
theorem narrow_real : narrow (mean (spread (momA st) (momB st) (inv (dev (momA st) (momB st))))) ix0 = ((1 / widthR (glob X) : ℝ) : EReal) :=
  narrow_at _ _ (glob_real st X h1 h2) (width_ne X)

include h1 h2 in
theorem tab_scale (p : Fin 8) (l : Fin 128) :
    table st (ix2 ⟨p.val, by omega⟩ l)
      = ((1 / kap X ⟨p.val * 2 + l.val / 64, by omega⟩ * (1 / widthR (glob X)) : ℝ) : EReal) := by
  unfold table
  rw [stack_scales, scales_at, inv_real st X h1 h2, narrow_real st X h1 h2, ← EReal.coe_mul]

include h1 h2 in
theorem tab_centre (l : Fin 128) :
    table st (ix2 8 l) = ((feat (fi (of l)) * (1 / widthR (glob X)) : ℝ) : EReal) := by
  unfold table
  rw [stack_centres, centres_at, lane_feat, feat_eq, narrow_real st X h1 h2, ← EReal.coe_mul]

include h1 h2 in
theorem tab_share (l : Fin 128) : table st (ix2 9 l) = ((shareR (glob X) : ℝ) : EReal) := by
  unfold table
  rw [stack_shares, shares_at]
  exact share_at _ _ (glob_real st X h1 h2)

theorem tab_mask (s : Fin 6) (l : Fin 128) :
    table st (ix2 ⟨10 + s.val, by omega⟩ l) = ((if s = off l then 1 else 0 : ℝ) : EReal) := by
  unfold table
  rw [stack_masks, masks_at, lane_mask]
  split
  · simp [Ideal.ofBits, Ideal.ieee]
    rw [← EReal.coe_mul]
    norm_num
  · simp [Ideal.ofBits, Ideal.ieee]

include h1 h2 in
/-- The greatest embedding at one lane and point of a block. -/
theorem best_real (v1 : FVec Ideal S512x48 .f32) (v3 : FVec Ideal S16x128 .f32) (h3 : ∀ s l, v3 (ix2 s l) = table st (ix2 s l))
    (r : Fin 512) (b : Fin 4) (n : Fin 4096) (hx : ∀ q, v1 (ix2 r q) = ((X b n q : ℝ) : EReal)) (l : Fin 128) :
    best v1 v3 8 (le_refl _) (ix2 r l)
      = ((bestR (fun p => embR (shareR (glob X)) (ang X b n ⟨(p * 2 + l.val / 64) % 16, by omega⟩ (of l))) 8 : ℝ) : EReal) := by
  refine best_at v1 v3 r l (shareR (glob X)) (fun p => ang X b n ⟨(p * 2 + l.val / 64) % 16, by omega⟩ (of l))
    ((h3 _ _).trans (tab_share st X h1 h2 l)) (fun p h => ?_) 8 (le_refl _)
  refine (arg_at v1 v3 p h r l (X b n) (off l) hx (fun q => (h3 _ _).trans (tab_mask st q l)) _ _
    ((h3 _ _).trans (tab_scale st X h1 h2 ⟨p, h⟩ l)) ((h3 _ _).trans (tab_centre st X h1 h2 l))).trans (congrArg _ ?_)
  have hl := l.isLt
  have hk : (⟨(p * 2 + l.val / 64) % 16, by omega⟩ : Fin 16) = ⟨p * 2 + l.val / 64, by omega⟩ := Fin.ext (by show (p * 2 + l.val / 64) % 16 = p * 2 + l.val / 64; omega)
  show _ = ang X b n ⟨(p * 2 + l.val / 64) % 16, _⟩ (of l)
  rw [hk]
  have hs : (⟨6 * p + (off l).val, by have := (off l).isLt; omega⟩ : Fin 48) = slot ⟨p * 2 + l.val / 64, by omega⟩ (co (of l)) :=
    Fin.ext (by show 6 * p + (l.val / 64 * 3 + (co (of l)).val) = (p * 2 + l.val / 64) * 3 + (co (of l)).val; ring)
  rw [hs]
  unfold ang nrm
  ring

include h1 h2 in
/-- The block's sum. -/
theorem part_real (x0 : Vec Ideal S1x512x48 .f32) (x1 : Vec Ideal S16x128 .f32) (h3 : ∀ s l, x1 (ix2 s l) = table st (ix2 s l))
    (b : Fin 4) (g : Fin 512 → Fin 4096) (hx : ∀ r q, x0 (ix3 0 r q) = ((X b (g r) q : ℝ) : EReal)) (j : Fin 64) :
    part x0 x1 (ix2 0 j) = ∑ r, ((hat X b (g r) j : ℝ) : EReal) := by
  have ha : ∀ r q, k0_pay2 x0 (ix2 r q) = ((X b (g r) q : ℝ) : EReal) := by
    intro r q
    rw [← hx]
    pointwise [k0_pay2]
  have hb : ∀ s l, k0_pay3 x1 (ix2 s l) = table st (ix2 s l) := by
    intro s l
    rw [← h3]
    pointwise [k0_pay3]
  unfold part
  rw [sums_at]
  refine Finset.sum_congr rfl fun r _ => ?_
  rw [best_real st X h1 h2 _ _ hb r b (g r) (ha r), best_real st X h1 h2 _ _ hb r b (g r) (ha r), max_real]
  have hj := j.isLt
  have e1 : of ⟨j.val, by omega⟩ = j := Fin.ext (by show j.val % 64 = j.val; omega)
  have e2 : of ⟨64 + j.val, by omega⟩ = j := Fin.ext (by show (64 + j.val) % 64 = j.val; omega)
  have e3 : j.val / 64 = 0 := by omega
  have e4 : (64 + j.val) / 64 = 1 := by omega
  unfold hat
  simp only [e1, e2, e3, e4, add_zero]

end

/-- The kernel's result in real numbers. -/
theorem result_real (m : (ℓ : Loc nD τ sig) → Buf (Elt Ideal) ℓ) (c : Dev nD) (X : Fin 4 → Fin 4096 → Fin 48 → ℝ)
    (h0 : ∀ b n q, rel m c (ix3 b n q) = ((X b n q : ℝ) : EReal))
    (h1 : ∀ b q, stat m c (ix3 b 0 q) = ((∑ n, X b n q : ℝ) : EReal))
    (h2 : ∀ b q, stat m c (ix3 b 1 q) = ((∑ n, X b n q * X b n q : ℝ) : EReal)) (b : Fin 4) (j : Fin 64) :
    (dats m 0 c).arrAt 2 cfg0.N (ix3 b 0 j : S4x1x64.Idx) = ((∑ n, hat X b n j : ℝ) : EReal) := by
  have hN : cfg0.N = 32 := N_0
  refine (arr2 m c b j).trans ?_
  have e : ∀ f : ℕ → EReal, ∑ u ∈ Finset.range 8, f u = ∑ u : Fin 8, f u := fun f => Finset.sum_range f
  rw [e, Near.coe_sum', ← Near.sum_blocks fun n => ((hat X b n j : ℝ) : EReal)]
  refine @Finset.sum_congr (Fin 8) EReal _ _ _ _ _ rfl fun u _ => ?_
  have hu : b.val * 8 + u.val < cfg0.N := by omega
  rw [blockSum, dif_pos hu]
  refine part_real (stat m c) X h1 h2 _ _ (fun s l => ?_) b (fun r => ⟨u.val * 512 + r.val, by omega⟩) (fun r q => ?_) j
  · rw [in1, tab_eq]
  · rw [in0, ← h0]
    congr 2
    · exact Fin.ext (by show (b.val * 8 + u.val) / 8 = b.val; omega)
    · exact Fin.ext (by show (b.val * 8 + u.val) % 8 * 512 + r.val = u.val * 512 + r.val; omega)

end Cert.Emb
-- ==== Proof.Plain.lean ====
module

public import proofs.«01_k».proof.Proof.Lanes

@[expose] public section

set_option maxRecDepth 16384

noncomputable section

/-! The reference's embedding in named pieces. -/

namespace Cert.Emb

open Idealize.ShloMosaic Cert.Post_near Cert.Post_near.Facts

variable [Cert.Post_near.Facts]

/-- The offsets, point by point. -/
def plainX (rel : FVec Ideal S4x4096x48 .f32) : FVec Ideal S4x4096x16x3 .f32 :=
  shapeCast S4x4096x16x3 rel shapeCasts_S4x4096x48_S4x4096x16x3

/-- The offsets in deviations. -/
def plainN (rel : FVec Ideal S4x4096x48 .f32) : FVec Ideal S4x4096x16x3 .f32 :=
  Host.divf (plainX rel) (broadcastInDim S4x4096x16x3 ![0, 1, 2, 3] bcast_S1x1x16x1_S4x4096x16x3_0_1_2_3
    (fn_clip (fn_std (plainX rel) (constantI S_ 32 1#32)) (constant S_ .f32 0x3727C5AC#32)))

/-- The mean deviation. -/
def plainG (n : FVec Ideal S4x4096x16x3 .f32) : FVec Ideal S_ .f32 :=
  Host.divf (Host.reduceAdd (fn_std_0 (shapeCast S4x65536x3 n shapeCasts_S4x4096x16x3_S4x65536x3) (constantI S_ 32 1#32))
    (constant S_ .f32 0x00000000#32) reducesTo_S4x3_S_d0_1 h_S_) (constant S_ .f32 0x41400000#32)

/-- The share of the bell. -/
def plainM (g : FVec Ideal S_ .f32) : FVec Ideal S_ .f32 :=
  Host.divf (constant S_ .f32 0x3F800000#32) (addf (constant S_ .f32 0x3F800000#32)
    (Host.exp (Host.negf (mulf (subf g (constant S_ .f32 0x3DCCCCCD#32)) (constant S_ .f32 0x41200000#32)))))

/-- The width of the bell, less the small number. -/
def plainS (g : FVec Ideal S_ .f32) : FVec Ideal S_ .f32 :=
  mulf (constant S_ .f32 0x3E99999A#32) (addf (constant S_ .f32 0x3F800000#32) g)

/-- The features as printed. -/
def plainF : FVec Ideal S1x22 .f32 := fun i => FloatOps.ofBits .f32 (lit0 (S1x22.rowMajor i))

/-- The angles along one coordinate. -/
def plainA (f : FVec Ideal S1x22 .f32) (s : FVec Ideal S4x4096x16x1 .f32) (w : FVec Ideal S_ .f32) : FVec Ideal S4x4096x16x22 .f32 :=
  Host.divf (subf (broadcastInDim S4x4096x16x22 ![0, 1, 2, 3] bcast_S4x4096x16x1_S4x4096x16x22_0_1_2_3 s)
      (broadcastInDim S4x4096x16x22 ![0, 1, 2, 3] bcast_S1x1x1x22_S4x4096x16x22_0_1_2_3
        (broadcastInDim S1x1x1x22 ![2, 3] bcast_S1x22_S1x1x1x22_2_3 f)))
    (broadcastInDim S4x4096x16x22 ![] bcast_S_S4x4096x16x22 (addf w (constant S_ .f32 0x358637BD#32)))

/-- The embedding along one coordinate. -/
def plainE (m : FVec Ideal S_ .f32) (a : FVec Ideal S4x4096x16x22 .f32) : FVec Ideal S4x4096x16x22 .f32 :=
  addf (mulf (broadcastInDim S4x4096x16x22 ![] bcast_S_S4x4096x16x22 m)
      (Host.exp (mulf (broadcastInDim S4x4096x16x22 ![] bcast_S_S4x4096x16x22 (constant S_ .f32 0xBF000000#32)) (mulf a a))))
    (mulf (broadcastInDim S4x4096x16x22 ![] bcast_S_S4x4096x16x22 (subf (constant S_ .f32 0x3F800000#32) m)) (Host.cos a))

/-- The three coordinates' embeddings, one after another. -/
def plainC (e0 e1 e2 : FVec Ideal S4x4096x16x22 .f32) : FVec Ideal S4x4096x16x66 .f32 :=
  concatenate S4x4096x16x66 3 [⟨S4x4096x16x22, e0⟩, ⟨S4x4096x16x22, e1⟩, ⟨S4x4096x16x22, e2⟩]
    concatenates_S4x4096x16x22_S4x4096x16x22_S4x4096x16x22_S4x4096x16x66_d3

/-- The mean over points of the greatest over neighbours of the entries taken. -/
def plainR (e : FVec Ideal S4x4096x16x66 .f32) : FVec Ideal S4x64 .f32 :=
  Host.divf (Host.reduceAdd (Host.reduce FloatOps.maximumf (fn_take e (fun i => lit1 (S64.rowMajor i)))
      (constant S_ .f32 0xFF800000#32 : FVec Ideal S_ .f32) reducesTo_S4x4096x16x64_S4x4096x64_d2 h_S_)
    (constant S_ .f32 0x00000000#32 : FVec Ideal S_ .f32) reducesTo_S4x4096x64_S4x64_d1 h_S_)
    (broadcastInDim S4x64 ![] bcast_S_S4x64 (constant S_ .f32 0x45800000#32))

/-- The embedding along the first coordinate. -/
def plain0 (n : FVec Ideal S4x4096x16x3 .f32) (g : FVec Ideal S_ .f32) : FVec Ideal S4x4096x16x22 .f32 :=
  plainE (plainM g) (plainA plainF (extractStridedSlice S4x4096x16x1 ![0, 0, 0, 0] n slices_S4x4096x16x3_S4x4096x16x1_0_0_0_0) (plainS g))
/-- The embedding along the second coordinate. -/
def plain1 (n : FVec Ideal S4x4096x16x3 .f32) (g : FVec Ideal S_ .f32) : FVec Ideal S4x4096x16x22 .f32 :=
  plainE (plainM g) (plainA plainF (extractStridedSlice S4x4096x16x1 ![0, 0, 0, 1] n slices_S4x4096x16x3_S4x4096x16x1_0_0_0_1) (plainS g))
/-- The embedding along the third coordinate. -/
def plain2 (n : FVec Ideal S4x4096x16x3 .f32) (g : FVec Ideal S_ .f32) : FVec Ideal S4x4096x16x22 .f32 :=
  plainE (plainM g) (plainA plainF (extractStridedSlice S4x4096x16x1 ![0, 0, 0, 2] n slices_S4x4096x16x3_S4x4096x16x1_0_0_0_2) (plainS g))

/-- All of it, from the offsets. -/
def plain (rel : FVec Ideal S4x4096x48 .f32) : FVec Ideal S4x64 .f32 :=
  plainR (plainC (plain0 (plainN rel) (plainG (plainN rel))) (plain1 (plainN rel) (plainG (plainN rel))) (plain2 (plainN rel) (plainG (plainN rel))))

/-- The postcondition in those pieces. -/
theorem near_eq (rel : FVec Ideal S4x4096x48 .f32) (st : FVec Ideal S4x8x48 .f32) (out : FVec Ideal S4x1x64 .f32) :
    Cert.Post_near.fn rel st out = Host.reduce IntOp.andi (cmpf .ole
      (Host.absf (subf (mulf (shapeCast S4x64 out shapeCasts_S4x1x64_S4x64) (broadcastInDim S4x64 ![] bcast_S_S4x64 (constant S_ .f32 0x39800000#32))) (plain rel)))
      (broadcastInDim S4x64 ![] bcast_S_S4x64 (constant S_ .f32 0x38D1B717#32))) (constantI S_ 1 1#1) reducesTo_S4x64_S_d0_1 h_S_ := rfl

section
variable (rel : FVec Ideal S4x4096x48 .f32) (X : Fin 4 → Fin 4096 → Fin 48 → ℝ) (h0 : ∀ b n q, rel (ix3 b n q) = ((X b n q : ℝ) : EReal))

include h0 in
theorem plainX_at (b : Fin 4) (n : Fin 4096) (k : Fin 16) (c : Fin 3) : plainX rel (ix4 b n k c) = ((X b n (slot k c) : ℝ) : EReal) := by
  rw [← h0]
  pointwise [plainX]
  rfl

include h0 in
theorem plainN_at (b : Fin 4) (n : Fin 4096) (k : Fin 16) (c : Fin 3) : plainN rel (ix4 b n k c) = ((nrm X b n k c : ℝ) : EReal) := by
  pointwise [plainN]
  rw [plainX_at rel X h0, std_at (plainX rel) k (fun p => X p.1 p.2.1 (slot k p.2.2)) fun p => plainX_at rel X h0 p.1 p.2.1 k p.2.2]
  exact div_real _ _ (kap_pos X k).ne'

include h0 in
theorem plainG_at : plainG (plainN rel) ix0 = ((glob X : ℝ) : EReal) := by
  have hs : ∀ b c, fn_std_0 (shapeCast S4x65536x3 (plainN rel) shapeCasts_S4x4096x16x3_S4x65536x3) (constantI S_ 32 1#32) (ix2 b c)
      = ((spr X b c : ℝ) : EReal) := by
    intro b c
    refine std1_at _ b c (flat X b c) fun p => ?_
    rw [show flat X b c p = nrm X b ⟨p.val / 16, by omega⟩ ⟨p.val % 16, by omega⟩ c from rfl, ← plainN_at rel X h0]
    pointwise []
  unfold plainG
  generalize fn_std_0 (shapeCast S4x65536x3 (plainN rel) shapeCasts_S4x4096x16x3_S4x65536x3) (constantI S_ 32 1#32) = s at hs ⊢
  pointwise []
  simp only [hs, ← Near.coe_sum', w_12]
  rw [div_real _ _ (by norm_num)]
  rfl

end

theorem plainM_at (g : FVec Ideal S_ .f32) (r : ℝ) (hg : g ix0 = ((r : ℝ) : EReal)) : plainM g ix0 = ((shareR r : ℝ) : EReal) :=
  share_at g r hg

theorem plainS_at (g : FVec Ideal S_ .f32) (r : ℝ) (hg : g ix0 = ((r : ℝ) : EReal)) :
    addf (plainS g) (constant S_ .f32 0x358637BD#32) ix0 = ((widthR r : ℝ) : EReal) := by
  pointwise [plainS]
  rw [hg, w_sig, w_eps6, ← EReal.coe_one, ← EReal.coe_add, ← EReal.coe_mul, ← EReal.coe_add]
  rfl

theorem plainF_at (f : Fin 22) : plainF (ix2 0 f) = ((feat f : ℝ) : EReal) := by
  have : S1x22.rowMajor (ix2 0 f) = f := Fin.ext ((Shape.rowMajor_val_two _).trans (by show 0 * 22 + f.val = f.val; omega))
  rw [← feat_eq]
  show Ideal.ofBits .f32 (lit0 (S1x22.rowMajor (ix2 0 f))) = _
  rw [this]

/-- An embedding as the reference has it. -/
def trueR (b u : ℝ) : ℝ := b * Real.exp (-(1 / 2) * (u * u)) + (1 - b) * Real.cos u

theorem plainE_at (m : FVec Ideal S_ .f32) (a : FVec Ideal S4x4096x16x22 .f32) (i : Fin 4) (n : Fin 4096) (k : Fin 16) (f : Fin 22)
    (b u : ℝ) (hm : m ix0 = ((b : ℝ) : EReal)) (ha : a (ix4 i n k f) = ((u : ℝ) : EReal)) :
    plainE m a (ix4 i n k f) = ((trueR b u : ℝ) : EReal) := by
  pointwise [plainE]
  rw [hm, ha, w_half, ← EReal.coe_mul, ← EReal.coe_mul, Ideal.exp_coe, Ideal.cos_coe, ← EReal.coe_one, ← EReal.coe_sub, ← EReal.coe_mul,
    ← EReal.coe_mul, ← EReal.coe_add]
  rfl

theorem plainA_at (s : FVec Ideal S4x4096x16x1 .f32) (w : FVec Ideal S_ .f32) (i : Fin 4) (n : Fin 4096) (k : Fin 16) (f : Fin 22)
    (v q : ℝ) (hw : addf w (constant S_ .f32 0x358637BD#32) ix0 = ((q : ℝ) : EReal)) (hq : q ≠ 0)
    (hs : s (ix4 i n k 0) = ((v : ℝ) : EReal)) :
    plainA plainF s w (ix4 i n k f) = (((v - feat f) / q : ℝ) : EReal) := by
  have hF := plainF_at f
  generalize plainF = F at hF ⊢
  have hw' : w ix0 + Ideal.ofBits FTy.f32 0x358637BD#32 = ((q : ℝ) : EReal) := hw
  pointwise [plainA]
  rw [hw', hF, hs, ← EReal.coe_sub]
  exact div_real _ _ hq

end Cert.Emb
-- ==== Proof.Take.lean ====
module

public import proofs.«01_k».proof.Proof.Plain

@[expose] public section

set_option maxRecDepth 16384

noncomputable section

/-! The reference's result read at one entry: the entries it takes, their greatest and its mean. -/

namespace Cert.Emb

open Idealize.ShloMosaic Cert.Post_near Cert.Post_near.Facts

variable [Cert.Post_near.Facts]

/-- The entry the reference takes, whatever the places, clamped. -/
theorem gather_at (e : FVec Ideal S4x4096x16x66 .f32) (y : IVec S64x1 32) (b : Fin 4) (n : Fin 4096) (k : Fin 16) (j : Fin 64) :
    Host.gather gather_S4x4096x16x66_S64x1_S4x4096x16x64_012_3_n_n_3_1_44096161 e y (ix4 b n k j)
      = e (ix4 b n k ⟨min (y (ix2 j 0)).toInt.toNat 65, by omega⟩) := by
  let d := gather_S4x4096x16x66_S64x1_S4x4096x16x64_012_3_n_n_3_1_44096161
  unfold Host.gather
  congr 1
  funext a
  refine Fin.ext ?_
  show d.start (ix4 b n k j) y a + d.batchCoord (ix4 b n k j) a + d.offCoord (ix4 b n k j) a = _
  rw [GatherDims.batchCoord_eq_zero _ _ _ List.not_mem_nil]
  have ho : ∀ a : Fin 4, a ≠ 3 → a ∉ d.startIndexMap := fun a h h' => h (List.mem_singleton.1 h')
  have h4 : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  have hk : ∀ a : Fin 4, a ≠ 3 → a ∈ d.sKept := fun a h =>
    (GatherDims.mem_sKept _ _).mpr ⟨fun h' => h (List.mem_singleton.1 h'), List.not_mem_nil⟩
  rcases h4 with rfl | rfl | rfl | rfl
  · unfold GatherDims.start GatherDims.offCoord
    rw [dif_neg (ho 0 (by decide)), dif_pos (hk 0 (by decide)), Nat.zero_add]
    rfl
  · unfold GatherDims.start GatherDims.offCoord
    rw [dif_neg (ho 1 (by decide)), dif_pos (hk 1 (by decide)), Nat.zero_add]
    rfl
  · unfold GatherDims.start GatherDims.offCoord
    rw [dif_neg (ho 2 (by decide)), dif_pos (hk 2 (by decide)), Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (3 : Fin 4) ∈ d.startIndexMap from List.mem_singleton.mpr rfl)]
    have hsi : d.siIdx (ix4 b n k j) ⟨List.idxOf (3 : Fin 4) d.startIndexMap,
        List.idxOf_lt_length_iff.2 (List.mem_singleton.mpr rfl)⟩ = ix2 j 0 := by
      funext c
      refine Fin.ext ?_
      match c with
      | ⟨0, _⟩ => rfl
      | ⟨1, _⟩ => rfl
    rw [hsi]
    rfl

theorem gather_of (e : FVec Ideal S4x4096x16x66 .f32) (y : IVec S64x1 32) (b : Fin 4) (n : Fin 4096) (k : Fin 16) (j : Fin 64)
    (p : ℕ) (hp : p < 66) (h : min (y (ix2 j 0)).toInt.toNat 65 = p) :
    Host.gather gather_S4x4096x16x66_S64x1_S4x4096x16x64_012_3_n_n_3_1_44096161 e y (ix4 b n k j) = e (ix4 b n k ⟨p, hp⟩) := by
  subst h
  exact gather_at e y b n k j

theorem lit_ok (j : Fin 64) : IntOp.cmpi CmpIPredicate.slt (lit1 j) 0#32 = 0#1
    ∧ IntOp.cmpi CmpIPredicate.sge (lit1 j) 0#32 = 1#1 ∧ IntOp.cmpi CmpIPredicate.sle (lit1 j) 65#32 = 1#1
    ∧ min (lit1 j).toInt.toNat 65 = pos j :=
  (by decide +kernel : ∀ j : Fin 64, IntOp.cmpi CmpIPredicate.slt (lit1 j) 0#32 = 0#1
    ∧ IntOp.cmpi CmpIPredicate.sge (lit1 j) 0#32 = 1#1 ∧ IntOp.cmpi CmpIPredicate.sle (lit1 j) 65#32 = 1#1
    ∧ min (lit1 j).toInt.toNat 65 = (lit1 j).toNat) j

/-- The entry the reference takes for result `j`. -/
theorem take_at (e : FVec Ideal S4x4096x16x66 .f32) (b : Fin 4) (n : Fin 4096) (k : Fin 16) (j : Fin 64) :
    fn_take e (fun i => lit1 (S64.rowMajor i)) (ix4 b n k j) = e (ix4 b n k ⟨pos j, pos_lt j⟩) := by
  have hy : S64.rowMajor (ix1 j) = j := Fin.ext (Shape.rowMajor_val_one _)
  have hl : (fun i => lit1 (S64.rowMajor i) : IVec S64 32) (ix1 j) = lit1 j := congrArg lit1 hy
  generalize (fun i => lit1 (S64.rowMajor i) : IVec S64 32) = y at hl ⊢
  obtain ⟨h1, h2, h3, h4⟩ := lit_ok j
  have hs : ∀ u v : BitVec 32, Scalar.select (0#1) u v = v := fun _ _ => rfl
  have hq : broadcastInDim S64x1 ![0] bcast_S64_S64x1_0
        (select (cmpi CmpIPredicate.slt y (broadcastInDim S64 ![] bcast_S_S64 (constantI S_ 32 0#32)))
          (addi y (broadcastInDim S64 ![] bcast_S_S64 (constantI S_ 32 66#32))) y) (ix2 j 0) = lit1 j := by
    pointwise []
    rw [hl, h1, hs]
  pointwise [fn_take, fn_where_3]
  rw [gather_of e _ b n k j (pos j) (pos_lt j) ((congrArg (fun v : BitVec 32 => min v.toInt.toNat 65) hq).trans h4),
    hl, h1, hs, h2, h3]
  have hf : Finset.fold IntOp.andi (1#1) (fun _ : Fin 1 => IntOp.andi 1#1 1#1) Finset.univ = 1#1 := by decide
  rw [hf]
  rfl

/-- The three coordinates' embeddings at the place of result `j`. -/
theorem plainC_at (e : Fin 3 → FVec Ideal S4x4096x16x22 .f32) (b : Fin 4) (n : Fin 4096) (k : Fin 16) (j : Fin 64) :
    plainC (e 0) (e 1) (e 2) (ix4 b n k ⟨pos j, pos_lt j⟩) = e (co j) (ix4 b n k (fi j)) := by
  pointwise [plainC]
  have hp := pos_lt j
  unfold co fi
  split
  · rename_i h
    have h1 : (⟨pos j / 22, by omega⟩ : Fin 3) = 0 := Fin.ext (by show pos j / 22 = 0; omega)
    have h2 : (⟨pos j % 22, by omega⟩ : Fin 22) = ⟨pos j, h⟩ := Fin.ext (by show pos j % 22 = pos j; omega)
    rw [h1, h2]
  · split
    · rename_i h h'
      have h1 : (⟨pos j / 22, by omega⟩ : Fin 3) = 1 := Fin.ext (by show pos j / 22 = 1; omega)
      have h2 : (⟨pos j % 22, by omega⟩ : Fin 22) = ⟨pos j - 22, h'⟩ := Fin.ext (by show pos j % 22 = pos j - 22; omega)
      rw [h1, h2]
    · rename_i h h'
      have h1 : (⟨pos j / 22, by omega⟩ : Fin 3) = 2 := Fin.ext (by show pos j / 22 = 2; omega)
      have h2 : (⟨pos j % 22, by omega⟩ : Fin 22) = ⟨pos j - 22 - 22, by omega⟩ := Fin.ext (by show pos j % 22 = pos j - 22 - 22; omega)
      rw [h1, h2]

/-- The greatest of sixteen numbers. -/
def topR (f : Fin 16 → ℝ) : ℝ := Finset.univ.sup' ⟨0, Finset.mem_univ _⟩ f

theorem fold_top (f : Fin 16 → ℝ) :
    Finset.fold max (Ideal.ofBits FTy.f32 0xFF800000#32) (fun k => ((f k : ℝ) : EReal)) Finset.univ = ((topR f : ℝ) : EReal) := by
  have hb : Ideal.ofBits FTy.f32 0xFF800000#32 = ⊥ := by simp [Ideal.ofBits, Ideal.ieee]
  rw [hb]
  refine le_antisymm ?_ ?_
  · rw [Finset.fold_max_le]
    refine ⟨bot_le, fun k _ => ?_⟩
    rw [EReal.coe_le_coe_iff]
    exact Finset.le_sup' f (Finset.mem_univ k)
  · obtain ⟨k, _, hk⟩ := Finset.exists_mem_eq_sup' (⟨0, Finset.mem_univ _⟩ : (Finset.univ : Finset (Fin 16)).Nonempty) f
    unfold topR
    rw [hk, Finset.le_fold_max]
    exact Or.inr ⟨k, Finset.mem_univ _, le_refl _⟩

/-- The mean of the greatest entries taken. -/
theorem plainR_at (e : FVec Ideal S4x4096x16x66 .f32) (b : Fin 4) (j : Fin 64) (f : Fin 4096 → Fin 16 → ℝ)
    (he : ∀ n k, e (ix4 b n k ⟨pos j, pos_lt j⟩) = ((f n k : ℝ) : EReal)) :
    plainR e (ix2 b j) = (((∑ n, topR (f n)) / 4096 : ℝ) : EReal) := by
  have ht : ∀ n k, fn_take e (fun i => lit1 (S64.rowMajor i)) (ix4 b n k j) = ((f n k : ℝ) : EReal) :=
    fun n k => (take_at e b n k j).trans (he n k)
  unfold plainR
  generalize fn_take e (fun i => lit1 (S64.rowMajor i)) = t at ht ⊢
  have hw : Ideal.ofBits FTy.f32 0x45800000#32 = ((4096 : ℝ) : EReal) := by
    simp [Ideal.ofBits, Ideal.ieee]
    rw [← EReal.coe_mul]
    norm_num
  pointwise []
  simp only [ht]
  simp only [fold_top]
  rw [← Near.coe_sum', hw, div_real _ _ (by norm_num)]

/-- The greatest of a point's embeddings as the reference has it, for result `j`. -/
def ref (X : Fin 4 → Fin 4096 → Fin 48 → ℝ) (b : Fin 4) (n : Fin 4096) (j : Fin 64) : ℝ :=
  topR fun k => trueR (shareR (glob X)) (ang X b n k j)

/-- The reference's result in real numbers. -/
theorem plain_real (rel : FVec Ideal S4x4096x48 .f32) (X : Fin 4 → Fin 4096 → Fin 48 → ℝ)
    (h0 : ∀ b n q, rel (ix3 b n q) = ((X b n q : ℝ) : EReal)) (b : Fin 4) (j : Fin 64) :
    plain rel (ix2 b j) = (((∑ n, ref X b n j) / 4096 : ℝ) : EReal) := by
  refine plainR_at _ b j (fun n k => trueR (shareR (glob X)) (ang X b n k j)) fun n k => ?_
  let g := plainG (plainN rel)
  have hg : g ix0 = ((glob X : ℝ) : EReal) := plainG_at rel X h0
  let e : Fin 3 → FVec Ideal S4x4096x16x22 .f32 := fun c => match c with
    | 0 => plain0 (plainN rel) g
    | 1 => plain1 (plainN rel) g
    | 2 => plain2 (plainN rel) g
  refine (plainC_at e b n k j).trans ?_
  have key : ∀ (s : FVec Ideal S4x4096x16x1 .f32) (c : Fin 3), s (ix4 b n k 0) = ((nrm X b n k c : ℝ) : EReal) →
      plainE (plainM g) (plainA plainF s (plainS g)) (ix4 b n k (fi j))
        = ((trueR (shareR (glob X)) ((nrm X b n k c - feat (fi j)) / widthR (glob X)) : ℝ) : EReal) := by
    intro s c hs
    exact plainE_at _ _ b n k (fi j) _ _ (plainM_at g _ hg) (plainA_at s _ b n k (fi j) _ _ (plainS_at g _ hg) (width_ne X) hs)
  show e (co j) (ix4 b n k (fi j)) = ((trueR (shareR (glob X)) ((nrm X b n k (co j) - feat (fi j)) / widthR (glob X)) : ℝ) : EReal)
  have hN := plainN_at rel X h0 b n k
  generalize co j = c
  fin_cases c
  · refine key _ 0 ?_
    rw [← hN]
    generalize plainN rel = N
    pointwise []
  · refine key _ 1 ?_
    rw [← hN]
    generalize plainN rel = N
    pointwise []
  · refine key _ 2 ?_
    rw [← hN]
    generalize plainN rel = N
    pointwise []

end Cert.Emb
-- ==== Proof.Close.lean ====
module

public import proofs.«01_k».proof.Proof.Take

@[expose] public section

set_option maxRecDepth 16384

noncomputable section

/-! The kernel's result is the reference's to within one in ten thousand. -/

namespace Cert.Emb

open Idealize.ShloMosaic

theorem share_mem (g : ℝ) : 0 ≤ shareR g ∧ shareR g ≤ 1 := by
  unfold shareR
  have := Real.exp_pos (-((g - 13421773 / 134217728) * 10))
  constructor
  · positivity
  · rw [div_le_one (by positivity)]
    linarith

/-- One embedding is near the reference's. -/
theorem emb_near (b u : ℝ) (hb : 0 ≤ b ∧ b ≤ 1) (h : |u| ≤ 14000) : |embR b u - trueR b u| ≤ 1 / 40000 := by
  have e : embR b u - trueR b u = (1 - b) * (polR (restR u * restR u) - Real.cos u) := by
    unfold embR trueR bellR
    ring
  rw [e, abs_mul, abs_of_nonneg (by linarith)]
  have := wave_near u h
  calc (1 - b) * |polR (restR u * restR u) - Real.cos u| ≤ 1 * |polR (restR u * restR u) - Real.cos u| :=
        mul_le_mul_of_nonneg_right (by linarith) (abs_nonneg _)
    _ ≤ 1 / 40000 := by linarith

/-- The reference's embeddings are at least minus one. -/
theorem true_low (b u : ℝ) (hb : 0 ≤ b ∧ b ≤ 1) : -1 ≤ trueR b u := by
  unfold trueR
  have h1 := Real.neg_one_le_cos u
  have h2 := mul_nonneg hb.1 (Real.exp_pos (-(1 / 2) * (u * u))).le
  have h3 : (1 - b) * (-1) ≤ (1 - b) * Real.cos u := mul_le_mul_of_nonneg_left h1 (by linarith)
  linarith

/-- A running greatest stays below a bound of its entries. -/
theorem best_le (f : ℕ → ℝ) (B : ℝ) (hB : -(14791142 * 2 ^ 104) ≤ B) : ∀ p, (∀ q < p, f q ≤ B) → bestR f p ≤ B
  | 0, _ => hB
  | p + 1, h => max_le (best_le f B hB p fun q hq => h q (by omega)) (h p (by omega))

/-- A running greatest is at least each entry. -/
theorem le_best (f : ℕ → ℝ) : ∀ p q, q < p → f q ≤ bestR f p
  | 0, _, h => absurd h (by omega)
  | p + 1, q, h => by
    by_cases hq : q = p
    · rw [hq]
      exact le_max_right _ _
    · exact (le_best f p q (by omega)).trans (le_max_left _ _)

/-- A point's greatest embedding is near the reference's. -/
theorem hat_near (X : Fin 4 → Fin 4096 → Fin 48 → ℝ) (h : ∀ b n k c, |X b n (slot k c)| ≤ 4096 * kap X k)
    (b : Fin 4) (n : Fin 4096) (j : Fin 64) : |hat X b n j - ref X b n j| ≤ 1 / 40000 := by
  have hb := share_mem (glob X)
  have hd : ∀ k, |embR (shareR (glob X)) (ang X b n k j) - trueR (shareR (glob X)) (ang X b n k j)| ≤ 1 / 40000 :=
    fun k => emb_near _ _ hb (ang_le X h b n k j)
  have ht : ∀ k, trueR (shareR (glob X)) (ang X b n k j) ≤ ref X b n j := fun k =>
    Finset.le_sup' (fun k => trueR (shareR (glob X)) (ang X b n k j)) (Finset.mem_univ k)
  have hl : -1 ≤ ref X b n j := (true_low _ _ hb).trans (ht 0)
  have hu : ∀ k, embR (shareR (glob X)) (ang X b n k j) ≤ ref X b n j + 1 / 40000 := fun k => by
    have := (abs_le.1 (hd k)).2
    linarith [ht k]
  have hB : -(14791142 * 2 ^ 104) ≤ ref X b n j + 1 / 40000 := by
    have : (-(14791142 * 2 ^ 104) : ℝ) ≤ -1 := by norm_num
    linarith
  rw [abs_le]
  constructor
  · obtain ⟨k, _, hk⟩ := Finset.exists_mem_eq_sup' (⟨0, Finset.mem_univ _⟩ : (Finset.univ : Finset (Fin 16)).Nonempty)
      fun k => trueR (shareR (glob X)) (ang X b n k j)
    have hk' : ref X b n j = trueR (shareR (glob X)) (ang X b n k j) := hk
    have h1 := (abs_le.1 (hd k)).1
    have h2 : embR (shareR (glob X)) (ang X b n k j) ≤ hat X b n j := by
      have hk16 := k.isLt
      unfold hat
      rcases Nat.mod_two_eq_zero_or_one k.val with hm | hm
      · refine le_trans ?_ (le_max_left _ _)
        have := le_best (fun p => embR (shareR (glob X)) (ang X b n ⟨(p * 2) % 16, by omega⟩ j)) 8 (k.val / 2) (by omega)
        refine le_trans (le_of_eq ?_) this
        have : k = ⟨(k.val / 2 * 2) % 16, by omega⟩ := Fin.ext (by show k.val = (k.val / 2 * 2) % 16; omega)
        exact congrArg (fun k => embR (shareR (glob X)) (ang X b n k j)) this
      · refine le_trans ?_ (le_max_right _ _)
        have := le_best (fun p => embR (shareR (glob X)) (ang X b n ⟨(p * 2 + 1) % 16, by omega⟩ j)) 8 (k.val / 2) (by omega)
        refine le_trans (le_of_eq ?_) this
        have : k = ⟨(k.val / 2 * 2 + 1) % 16, by omega⟩ := Fin.ext (by show k.val = (k.val / 2 * 2 + 1) % 16; omega)
        exact congrArg (fun k => embR (shareR (glob X)) (ang X b n k j)) this
    linarith
  · have : hat X b n j ≤ ref X b n j + 1 / 40000 :=
      max_le (best_le _ _ hB 8 fun q _ => hu _) (best_le _ _ hB 8 fun q _ => hu _)
    linarith

/-- The mean over points is near the reference's. -/
theorem mean_near (X : Fin 4 → Fin 4096 → Fin 48 → ℝ) (h : ∀ b n k c, |X b n (slot k c)| ≤ 4096 * kap X k)
    (b : Fin 4) (j : Fin 64) : |(∑ n, hat X b n j) * (1 / 4096) - (∑ n, ref X b n j) / 4096| ≤ 1 / 40000 := by
  have e : (∑ n, hat X b n j) * (1 / 4096) - (∑ n, ref X b n j) / 4096 = (∑ n, (hat X b n j - ref X b n j)) / 4096 := by
    rw [Finset.sum_sub_distrib]
    ring
  rw [e, abs_div, abs_of_pos (by norm_num : (0 : ℝ) < 4096), div_le_iff₀ (by norm_num)]
  refine (Finset.abs_sum_le_sum_abs _ _).trans ?_
  refine (Finset.sum_le_sum fun n _ => hat_near X h b n j).trans ?_
  rw [Finset.sum_const, Finset.card_univ, Fintype.card_fin, nsmul_eq_mul]
  norm_num

section
open Cert.Post_near Cert.Post_near.Facts
variable [Cert.Post_near.Facts]

/-- The postcondition holds of a result with the kernel's entries. -/
theorem near_of (rel : FVec Ideal S4x4096x48 .f32) (st : FVec Ideal S4x8x48 .f32) (out : FVec Ideal S4x1x64 .f32)
    (X : Fin 4 → Fin 4096 → Fin 48 → ℝ) (h0 : ∀ b n q, rel (ix3 b n q) = ((X b n q : ℝ) : EReal))
    (h : ∀ b n k c, |X b n (slot k c)| ≤ 4096 * kap X k)
    (ho : ∀ b j, out (ix3 b 0 j) = ((∑ n, hat X b n j : ℝ) : EReal)) :
    Cert.Post_near.fn rel st out = fun _ => 1#1 := by
  rw [near_eq]
  funext i
  refine Host.reduce_andi_one _ _ _ _ i rfl fun i => ?_
  refine at_le _ _ i ?_
  obtain ⟨b, j, rfl⟩ : ∃ (b : Fin 4) (j : Fin 64), i = ix2 b j := ⟨i 0, i 1, by funext a; fin_cases a <;> rfl⟩
  have hp := plain_real rel X h0 b j
  generalize plain rel = P at hp ⊢
  have hw : Ideal.ofBits FTy.f32 0x39800000#32 = ((1 / 4096 : ℝ) : EReal) := by
    simp [Ideal.ofBits, Ideal.ieee]
    rw [← EReal.coe_mul]
    norm_num
  have ht : Ideal.ofBits FTy.f32 0x38D1B717#32 = ((13743895 / 137438953472 : ℝ) : EReal) := by
    simp [Ideal.ofBits, Ideal.ieee]
    rw [← EReal.coe_mul]
    norm_num
  pointwise []
  rw [ho, hp, hw, ht, ← EReal.coe_mul, ← EReal.coe_sub]
  have hm := abs_le.1 (mean_near X h b j)
  show max (((∑ n, hat X b n j) * (1 / 4096) - (∑ n, ref X b n j) / 4096 : ℝ) : EReal)
    (-(((∑ n, hat X b n j) * (1 / 4096) - (∑ n, ref X b n j) / 4096 : ℝ) : EReal)) ≤ _
  rw [← EReal.coe_neg, max_real, EReal.coe_le_coe_iff]
  refine max_le ?_ ?_
  · linarith [hm.2]
  · linarith [hm.1]

end

end Cert.Emb
-- ==== Proof.lean ====
module

public import proofs.«01_k».proof.Defs
public import proofs.«01_k».proof.Proof.Gen.KnnIdeal.Value
public import proofs.«01_k».proof.Proof.Gen.KnnRefIdeal.Run
public import proofs.«01_k».proof.Proof.Gen.Knn
public import proofs.«01_k».proof.Proof.Gen.Knn.Skeleton
public import proofs.«01_k».proof.Proof.Gen.Knn.Launch
public import proofs.«01_k».proof.Proof.Gen.Knn.Points
public import proofs.«01_k».proof.Proof.Gen.Knn.Frame
public import proofs.«01_k».proof.Proof.Gen.KnnIdeal
public import proofs.«01_k».proof.Proof.Gen.KnnIdeal.Skeleton
public import proofs.«01_k».proof.Proof.Gen.KnnIdeal.Launch
public import proofs.«01_k».proof.Proof.Gen.KnnIdeal.Points
public import proofs.«01_k».proof.Proof.Gen.KnnIdeal.Frame
public import proofs.«01_k».proof.Proof.Gen.KnnRefIdeal
public import proofs.«01_k».proof.Proof.Gen.Pre_in_range
public import proofs.«01_k».proof.Proof.Gen.On_separated
public import proofs.«01_k».proof.Proof.Gen.Pre_summed
public import proofs.«01_k».proof.Proof.Gen.Post_near
public import proofs.«01_k».proof.Proof.Gen.Gpe.Skeleton
public import proofs.«01_k».proof.Proof.Gen.Gpe.Launch
public import proofs.«01_k».proof.Proof.Gen.Gpe.Points
public import proofs.«01_k».proof.Proof.Gen.Gpe.Frame
public import proofs.«01_k».proof.Proof.Gen.Gpe
public import proofs.«01_k».proof.Proof.Gen.GpeIdeal.Skeleton
public import proofs.«01_k».proof.Proof.Gen.GpeIdeal.Launch
public import proofs.«01_k».proof.Proof.Gen.GpeIdeal.Points
public import proofs.«01_k».proof.Proof.Gen.GpeIdeal.Frame
public import proofs.«01_k».proof.Proof.Gen.GpeIdeal
public import proofs.«01_k».proof.Proof.Gen.GpeIdeal.Value
public import proofs.«01_k».proof.Proof.Agree
public import proofs.«01_k».proof.Proof.Close
public import Idealize.ShloMosaic.Adequacy
public import Idealize.ShloMosaic.Init

@[expose] public section

noncomputable section

namespace Cert.Proof

open Idealize.ShloMosaic Idealize.SL.Sem

/-- The reference runs, leaves its argument alone and holds no semaphore. -/
theorem frame_ref (m : (ℓ : Loc Cert.KnnRefIdeal.nD Cert.KnnRefIdeal.τ Cert.KnnRefIdeal.sig) → Buf (Elt Ideal) ℓ) (ρ : Dev Cert.KnnRefIdeal.nD → PrngReg) :
    θ_run (Cert.KnnRefIdeal.defs (F := Ideal)) (onTc (τ := Cert.KnnRefIdeal.τ) (Cert.KnnRefIdeal.main (F := Ideal))) ⟨m, fun _ => 0, ρ⟩ (fun r =>
      (∀ c : Dev Cert.KnnRefIdeal.nD, r.2.mem ((c.tc : Thread Cert.KnnRefIdeal.nD Cert.KnnRefIdeal.τ).loc Cert.KnnRefIdeal.main_arg0)
        = m ((c.tc : Thread Cert.KnnRefIdeal.nD Cert.KnnRefIdeal.τ).loc Cert.KnnRefIdeal.main_arg0)) ∧ r.2.sem = fun _ => 0) :=
  (θ_run Cert.KnnRefIdeal.defs _ _).mono
    (fun r h => ⟨fun c => (h c).2.2, sem_eq_zero_of_no_sems (by decide) r.2⟩)
    (Cert.KnnRefIdeal.Value.run (F := Ideal) m ρ)

/-- Where the mask is set, the kernel's offsets and moments are the reference's. -/
theorem algebraic : Cert.algebraic_KnnIdeal_KnnRefIdeal_on_separated_pre_in_range := by
  intro m ρ m' ρ' hp hagree
  refine ⟨fun c => shapeCast Cert.KnnRefIdeal.S4x4096x48 (Cert.Host.rel (Cert.Near.pts m c)) Cert.KnnRefIdeal.Gen.shapeCasts_S4x4096x16x3_S4x4096x48,
    fun c => Cert.Host.moments (Cert.Host.rel (Cert.Near.pts m c)), ?_, ?_⟩
  · exact (θ_run Cert.KnnIdeal.defs _ _).mono
      (fun _ h c => ⟨fun i hi => (congrFun (h c).1 i).trans (Cert.Near.first_eq m c (hp c) i hi),
        fun i hi => (congrFun (h c).2.1 i).trans (Cert.Near.second_eq m c (hp c) i hi), (h c).2.2⟩)
      (Cert.KnnIdeal.Value.run_blocks m ρ)
  · refine (θ_run Cert.KnnRefIdeal.defs _ _).mono
      (fun _ h c => ⟨fun i _ => congrFun ((h c).1.trans ?_) i, fun i _ => congrFun ((h c).2.1.trans ?_) i, (h c).2.2⟩)
      (Cert.KnnRefIdeal.Value.run (F := Ideal) m' ρ')
    · rw [Cert.Host.res0, hagree c]
    · rw [Cert.Host.res1, hagree c]

/-- The second call's result is the reference's embedding to within one in ten thousand. -/
theorem near : Cert.holds_GpeIdeal_near_pre_summed (hGpeIdeal := Cert.GpeIdeal.Gen.facts) (hPre_summed := Cert.Pre_summed.Gen.facts)
    (hPost_near := Cert.Post_near.Gen.facts) := by
  intro m ρ hp
  refine (θ_run Cert.GpeIdeal.defs _ _).mono (fun r h c => ⟨(h c).2.1, (h c).2.2, ?_⟩) (Cert.GpeIdeal.Value.run_blocks m ρ)
  obtain ⟨X, h0, h1, h2, h3⟩ := Cert.Emb.given _ _ (hp c)
  rw [(h c).1]
  exact Cert.Emb.near_of _ _ _ X h0 h3 (Cert.Emb.result_real m c X h0 h1 h2)

/-- Everything that is claimed. -/
theorem claim : Cert.Claim := ⟨Cert.Knn.Gen.facts, Cert.KnnIdeal.Gen.facts, Cert.KnnRefIdeal.Gen.facts, Cert.Gpe.Gen.facts, Cert.GpeIdeal.Gen.facts,
  Cert.Pre_in_range.Gen.facts, Cert.Pre_summed.Gen.facts, Cert.Post_near.Gen.facts, Cert.On_separated.Gen.facts,
  fun m ρ _ => Cert.Knn.Gen.frame m ρ, fun m ρ _ => Cert.KnnIdeal.Gen.frame m ρ, fun m ρ _ => Cert.KnnIdeal.Gen.frame m ρ,
  fun m ρ _ => frame_ref m ρ, fun m ρ _ => frame_ref m ρ,
  fun m ρ _ => Cert.Gpe.Gen.frame m ρ, fun m ρ _ => Cert.GpeIdeal.Gen.frame m ρ, fun m ρ _ => Cert.GpeIdeal.Gen.frame m ρ,
  trivial, algebraic, trivial, near⟩

end Cert.Proof

end
